-- ==== Defs.lean ====
def Pre_Kernel [hPre_chains_in_range : Cert.Pre_chains_in_range.Facts] (m : (ℓ : Loc Cert.Kernel.nD Cert.Kernel.τ Cert.Kernel.sig) → Buf (Elt Bits) ℓ) : Prop :=
  ∀ c : Dev Cert.Kernel.nD,
    (Cert.Pre_chains_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_chains_in_range : Cert.Pre_chains_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_chains_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_inputs_as_drawn [hPre_inputs_as_drawn : Cert.Pre_inputs_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_as_drawn [hPre_inputs_as_drawn : Cert.Pre_inputs_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2 = (fun _ => 1#1)

def quiescent_Kernel [hKernel : Cert.Kernel.Facts] [hPre_chains_in_range : Cert.Pre_chains_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_chains_in_range : Cert.Pre_chains_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_inputs_as_drawn [hKernelIdeal : Cert.KernelIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_inputs_as_drawn [hReferenceIdeal : Cert.ReferenceIdeal.Facts] [hPre_inputs_as_drawn : Cert.Pre_inputs_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_inputs_as_drawn [hKernelIdeal : Cert.KernelIdeal.Facts] [hReferenceIdeal : Cert.ReferenceIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_chains_in_range : Cert.Pre_chains_in_range.Facts) (hPre_inputs_as_drawn : Cert.Pre_inputs_as_drawn.Facts),
    quiescent_Kernel (hKernel := hKernel) (hPre_chains_in_range := hPre_chains_in_range)
    ∧ quiescent_KernelIdeal (hKernelIdeal := hKernelIdeal) (hPre_chains_in_range := hPre_chains_in_range)
    ∧ quiescent_KernelIdeal_pre_inputs_as_drawn (hKernelIdeal := hKernelIdeal) (hPre_inputs_as_drawn := hPre_inputs_as_drawn)
    ∧ quiescent_ReferenceIdeal (hReferenceIdeal := hReferenceIdeal)
    ∧ quiescent_ReferenceIdeal_pre_inputs_as_drawn (hReferenceIdeal := hReferenceIdeal) (hPre_inputs_as_drawn := hPre_inputs_as_drawn)
    ∧ preserves_Kernel_KernelIdeal
    ∧ algebraic_KernelIdeal_ReferenceIdeal_pre_inputs_as_drawn (hKernelIdeal := hKernelIdeal) (hReferenceIdeal := hReferenceIdeal) (hPre_inputs_as_drawn := hPre_inputs_as_drawn)
-- ==== Pre_chains_in_range.lean ====
abbrev S1x64x512x48 : Shape := ⟨4, ![1, 64, 512, 48]⟩
abbrev S1x512 : Shape := ⟨2, ![1, 512]⟩
abbrev S48x256 : Shape := ⟨2, ![48, 256]⟩
abbrev S256 : Shape := ⟨1, ![256]⟩
abbrev S22x256 : Shape := ⟨2, ![22, 256]⟩
abbrev S22x128 : Shape := ⟨2, ![22, 128]⟩
abbrev S2x128 : Shape := ⟨2, ![2, 128]⟩
abbrev S22x32 : Shape := ⟨2, ![22, 32]⟩
abbrev S2x32 : Shape := ⟨2, ![2, 32]⟩
abbrev S65x128 : Shape := ⟨2, ![65, 128]⟩
abbrev S5x128 : Shape := ⟨2, ![5, 128]⟩
abbrev S_ : Shape := ⟨0, ![]⟩

class Facts : Prop where
  bcast_S_S1x512 : S_.BroadcastsInDim S1x512 (![] : Fin 0 → Fin S1x512.rank)

variable [Facts]

def fn {F : FTy → Type} [FloatOps F] (main_arg0 : FVec F S1x64x512x48 .f32) (main_arg1 : IVec S1x512 32) (main_arg2 : IVec S1x512 32) (main_arg3 : IVec S1x512 32) (main_arg4 : IVec S1x512 32) (main_arg5 : FVec F S48x256 .f32) (main_arg6 : FVec F S256 .f32) (main_arg7 : FVec F S22x256 .f32) (main_arg8 : FVec F S22x128 .f32) (main_arg9 : FVec F S22x128 .f32) (main_arg10 : FVec F S2x128 .f32) (main_arg11 : FVec F S2x128 .f32) (main_arg12 : FVec F S22x32 .f32) (main_arg13 : FVec F S2x32 .f32) (main_arg14 : FVec F S65x128 .f32) (main_arg15 : FVec F S5x128 .f32) : IVec S1x512 1 :=
  let main_c : IVec S_ 32 := constantI S_ 32 0#32
  let main_v0 : IVec S1x512 32 := broadcastInDim S1x512 ![] bcast_S_S1x512 main_c
  let main_v1 : IVec S1x512 1 := cmpi .sge main_arg3 main_v0
  let main_c_0 : IVec S_ 32 := constantI S_ 32 2#32
  let main_v2 : IVec S1x512 32 := broadcastInDim S1x512 ![] bcast_S_S1x512 main_c_0
  let main_v3 : IVec S1x512 1 := cmpi .slt main_arg3 main_v2
  let main_v4 : IVec S1x512 1 := andi main_v1 main_v3
  main_v4
-- ==== Pre_inputs_as_drawn.lean ====
abbrev S1x64x512x48 : Shape := ⟨4, ![1, 64, 512, 48]⟩
abbrev S1x512 : Shape := ⟨2, ![1, 512]⟩
abbrev S48x256 : Shape := ⟨2, ![48, 256]⟩
abbrev S256 : Shape := ⟨1, ![256]⟩
abbrev S22x256 : Shape := ⟨2, ![22, 256]⟩
abbrev S22x128 : Shape := ⟨2, ![22, 128]⟩
abbrev S2x128 : Shape := ⟨2, ![2, 128]⟩
abbrev S22x32 : Shape := ⟨2, ![22, 32]⟩
abbrev S2x32 : Shape := ⟨2, ![2, 32]⟩
abbrev S65x128 : Shape := ⟨2, ![65, 128]⟩
abbrev S5x128 : Shape := ⟨2, ![5, 128]⟩
abbrev S3x128 : Shape := ⟨2, ![3, 128]⟩
abbrev S_ : Shape := ⟨0, ![]⟩
abbrev S1x1 : Shape := ⟨2, ![1, 1]⟩

class Facts : Prop where
  slices_S5x128_S3x128_1_0 : S5x128.Slices ![1, 0] S3x128
  bcast_S_S1x512 : S_.BroadcastsInDim S1x512 (![] : Fin 0 → Fin S1x512.rank)
  slices_S1x512_S1x1_0_0 : S1x512.Slices ![0, 0] S1x1
  bcast_S1x1_S1x512_0_1 : S1x1.BroadcastsInDim S1x512 (![0, 1] : Fin 2 → Fin S1x512.rank)
  bcast_S_S3x128 : S_.BroadcastsInDim S3x128 (![] : Fin 0 → Fin S3x128.rank)

variable [Facts]

def fn_part1 {F : FTy → Type} [FloatOps F] (main_arg2 : IVec S1x512 32) (main_v0 : IVec S1x512 32) (main_v1 : FVec F S3x128 .f32) (main_v6 : IVec S1x512 1) (main_v11 : IVec S1x512 1) (main_v16 : IVec S1x512 1) (main_v17 : IVec S1x1 32) : IVec S1x512 1 × IVec S1x512 1 × IVec S1x512 1 × IVec S1x512 1 × IVec S3x128 1 :=
  let main_v18 : IVec S1x512 32 := broadcastInDim S1x512 ![0, 1] bcast_S1x1_S1x512_0_1 main_v17
  let main_v19 : IVec S1x512 32 := addi main_v18 main_v0
  let main_v20 : IVec S1x512 1 := cmpi .eq main_arg2 main_v19
  let main_v21 : FVec F S3x128 .f32 := subf main_v1 main_v1
  let main_cst : FVec F S_ .f32 := constant S_ .f32 0x00000000#32
  let main_v22 : FVec F S3x128 .f32 := broadcastInDim S3x128 ![] bcast_S_S3x128 main_cst
  let main_v23 : IVec S3x128 1 := cmpf .oeq main_v21 main_v22
  (main_v6, main_v11, main_v16, main_v20, main_v23)

def fn {F : FTy → Type} [FloatOps F] (main_arg0 : FVec F S1x64x512x48 .f32) (main_arg1 : IVec S1x512 32) (main_arg2 : IVec S1x512 32) (main_arg3 : IVec S1x512 32) (main_arg4 : IVec S1x512 32) (main_arg5 : FVec F S48x256 .f32) (main_arg6 : FVec F S256 .f32) (main_arg7 : FVec F S22x256 .f32) (main_arg8 : FVec F S22x128 .f32) (main_arg9 : FVec F S22x128 .f32) (main_arg10 : FVec F S2x128 .f32) (main_arg11 : FVec F S2x128 .f32) (main_arg12 : FVec F S22x32 .f32) (main_arg13 : FVec F S2x32 .f32) (main_arg14 : FVec F S65x128 .f32) (main_arg15 : FVec F S5x128 .f32) : IVec S1x512 1 × IVec S1x512 1 × IVec S1x512 1 × IVec S1x512 1 × IVec S3x128 1 :=
  let main_v0 : IVec S1x512 32 := iotaInDim S1x512 32 1
  let main_v1 : FVec F S3x128 .f32 := (extractStridedSlice S3x128 ![1, 0] · slices_S5x128_S3x128_1_0) main_arg15
  let main_c : IVec S_ 32 := constantI S_ 32 0#32
  let main_v2 : IVec S1x512 32 := broadcastInDim S1x512 ![] bcast_S_S1x512 main_c
  let main_v3 : IVec S1x512 1 := cmpi .sge main_arg3 main_v2
  let main_c_0 : IVec S_ 32 := constantI S_ 32 2#32
  let main_v4 : IVec S1x512 32 := broadcastInDim S1x512 ![] bcast_S_S1x512 main_c_0
  let main_v5 : IVec S1x512 1 := cmpi .slt main_arg3 main_v4
  let main_v6 : IVec S1x512 1 := andi main_v3 main_v5
  let main_c_1 : IVec S_ 32 := constantI S_ 32 0#32
  let main_v7 : IVec S1x512 32 := broadcastInDim S1x512 ![] bcast_S_S1x512 main_c_1
  let main_v8 : IVec S1x512 1 := cmpi .sge main_arg1 main_v7
  let main_c_2 : IVec S_ 32 := constantI S_ 32 22#32
  let main_v9 : IVec S1x512 32 := broadcastInDim S1x512 ![] bcast_S_S1x512 main_c_2
  let main_v10 : IVec S1x512 1 := cmpi .slt main_arg1 main_v9
  let main_v11 : IVec S1x512 1 := andi main_v8 main_v10
  let main_c_3 : IVec S_ 32 := constantI S_ 32 0#32
  let main_v12 : IVec S1x512 32 := broadcastInDim S1x512 ![] bcast_S_S1x512 main_c_3
  let main_v13 : IVec S1x512 1 := cmpi .sge main_arg4 main_v12
  let main_c_4 : IVec S_ 32 := constantI S_ 32 2#32
  let main_v14 : IVec S1x512 32 := broadcastInDim S1x512 ![] bcast_S_S1x512 main_c_4
  let main_v15 : IVec S1x512 1 := cmpi .slt main_arg4 main_v14
  let main_v16 : IVec S1x512 1 := andi main_v13 main_v15
  let main_v17 : IVec S1x1 32 := (extractStridedSlice S1x1 ![0, 0] · slices_S1x512_S1x1_0_0) main_arg2
  fn_part1 (F := F) main_arg2 main_v0 main_v1 main_v6 main_v11 main_v16 main_v17
-- ==== Kernel.lean ====
abbrev S1x64x512x48 : Shape := ⟨4, ![1, 64, 512, 48]⟩
abbrev S1x512 : Shape := ⟨2, ![1, 512]⟩
abbrev S48x256 : Shape := ⟨2, ![48, 256]⟩
abbrev S256 : Shape := ⟨1, ![256]⟩
abbrev S22x256 : Shape := ⟨2, ![22, 256]⟩
abbrev S22x128 : Shape := ⟨2, ![22, 128]⟩
abbrev S2x128 : Shape := ⟨2, ![2, 128]⟩
abbrev S22x32 : Shape := ⟨2, ![22, 32]⟩
abbrev S2x32 : Shape := ⟨2, ![2, 32]⟩
abbrev S65x128 : Shape := ⟨2, ![65, 128]⟩
abbrev S5x128 : Shape := ⟨2, ![5, 128]⟩
abbrev S512x1 : Shape := ⟨2, ![512, 1]⟩
abbrev S1x256 : Shape := ⟨2, ![1, 256]⟩
abbrev S1x64x512x256 : Shape := ⟨4, ![1, 64, 512, 256]⟩
abbrev S1x512x512x128 : Shape := ⟨4, ![1, 512, 512, 128]⟩
abbrev S1x512x32 : Shape := ⟨3, ![1, 512, 32]⟩
abbrev S1x4x512x48 : Shape := ⟨4, ![1, 4, 512, 48]⟩
abbrev S1x4x512x256 : Shape := ⟨4, ![1, 4, 512, 256]⟩
abbrev S1x32x512x128 : Shape := ⟨4, ![1, 32, 512, 128]⟩
abbrev S1024x128 : Shape := ⟨2, ![1024, 128]⟩
abbrev S512x128 : Shape := ⟨2, ![512, 128]⟩
abbrev S512x256 : Shape := ⟨2, ![512, 256]⟩
abbrev S512x22 : Shape := ⟨2, ![512, 22]⟩
abbrev S512x2 : Shape := ⟨2, ![512, 2]⟩
abbrev S1x128 : Shape := ⟨2, ![1, 128]⟩
abbrev S512x32 : Shape := ⟨2, ![512, 32]⟩
abbrev S1024x65 : Shape := ⟨2, ![1024, 65]⟩
abbrev S1x1x512x48 : Shape := ⟨4, ![1, 1, 512, 48]⟩
abbrev S512x48 : Shape := ⟨2, ![512, 48]⟩
abbrev S1x1x512x256 : Shape := ⟨4, ![1, 1, 512, 256]⟩
abbrev S1x1 : Shape := ⟨2, ![1, 1]⟩
abbrev S1x1x512x128 : Shape := ⟨4, ![1, 1, 512, 128]⟩

abbrev nBuf : Space → Nat
  | .hbm => 23
  | .vmem => 25
  | .smem => 1
  | _ => 0

abbrev bufTy : (tb : Table) → Fin (tcTables nBuf tb) → BufTy
  | .hbm, ⟨0, _⟩ => ⟨S1x64x512x48, .f32⟩
  | .hbm, ⟨1, _⟩ => ⟨S1x512, .i32⟩
  | .hbm, ⟨2, _⟩ => ⟨S1x512, .i32⟩
  | .hbm, ⟨3, _⟩ => ⟨S1x512, .i32⟩
  | .hbm, ⟨4, _⟩ => ⟨S1x512, .i32⟩
  | .hbm, ⟨5, _⟩ => ⟨S48x256, .f32⟩
  | .hbm, ⟨6, _⟩ => ⟨S256, .f32⟩
  | .hbm, ⟨7, _⟩ => ⟨S22x256, .f32⟩
  | .hbm, ⟨8, _⟩ => ⟨S22x128, .f32⟩
  | .hbm, ⟨9, _⟩ => ⟨S22x128, .f32⟩
  | .hbm, ⟨10, _⟩ => ⟨S2x128, .f32⟩
  | .hbm, ⟨11, _⟩ => ⟨S2x128, .f32⟩
  | .hbm, ⟨12, _⟩ => ⟨S22x32, .f32⟩
  | .hbm, ⟨13, _⟩ => ⟨S2x32, .f32⟩
  | .hbm, ⟨14, _⟩ => ⟨S65x128, .f32⟩
  | .hbm, ⟨15, _⟩ => ⟨S5x128, .f32⟩
  | .hbm, ⟨16, _⟩ => ⟨S512x1, .i32⟩
  | .hbm, ⟨17, _⟩ => ⟨S512x1, .i32⟩
  | .hbm, ⟨18, _⟩ => ⟨S512x1, .i32⟩
  | .hbm, ⟨19, _⟩ => ⟨S1x256, .f32⟩
  | .hbm, ⟨20, _⟩ => ⟨S1x64x512x256, .f32⟩
  | .hbm, ⟨21, _⟩ => ⟨S1x512x512x128, .f32⟩
  | .hbm, ⟨22, _⟩ => ⟨S1x512x32, .f32⟩
  | .local _ .vmem, ⟨0, _⟩ => ⟨S1x4x512x48, .f32⟩
  | .local _ .vmem, ⟨1, _⟩ => ⟨S1x4x512x48, .f32⟩
  | .local _ .vmem, ⟨2, _⟩ => ⟨S48x256, .f32⟩
  | .local _ .vmem, ⟨3, _⟩ => ⟨S1x256, .f32⟩
  | .local _ .vmem, ⟨4, _⟩ => ⟨S512x1, .i32⟩
  | .local _ .vmem, ⟨5, _⟩ => ⟨S512x1, .i32⟩
  | .local _ .vmem, ⟨6, _⟩ => ⟨S512x1, .i32⟩
  | .local _ .vmem, ⟨7, _⟩ => ⟨S22x256, .f32⟩
  | .local _ .vmem, ⟨8, _⟩ => ⟨S22x128, .f32⟩
  | .local _ .vmem, ⟨9, _⟩ => ⟨S22x128, .f32⟩
  | .local _ .vmem, ⟨10, _⟩ => ⟨S2x128, .f32⟩
  | .local _ .vmem, ⟨11, _⟩ => ⟨S2x128, .f32⟩
  | .local _ .vmem, ⟨12, _⟩ => ⟨S22x32, .f32⟩
  | .local _ .vmem, ⟨13, _⟩ => ⟨S2x32, .f32⟩
  | .local _ .vmem, ⟨14, _⟩ => ⟨S65x128, .f32⟩
  | .local _ .vmem, ⟨15, _⟩ => ⟨S5x128, .f32⟩
  | .local _ .vmem, ⟨16, _⟩ => ⟨S1x4x512x256, .f32⟩
  | .local _ .vmem, ⟨17, _⟩ => ⟨S1x4x512x256, .f32⟩
  | .local _ .vmem, ⟨18, _⟩ => ⟨S1x32x512x128, .f32⟩
  | .local _ .vmem, ⟨19, _⟩ => ⟨S1x32x512x128, .f32⟩
  | .local _ .vmem, ⟨20, _⟩ => ⟨S1x512x32, .f32⟩
  | .local _ .vmem, ⟨21, _⟩ => ⟨S1024x128, .f32⟩
  | .local _ .vmem, ⟨22, _⟩ => ⟨S512x128, .f32⟩
  | .local _ .vmem, ⟨23, _⟩ => ⟨S512x256, .f32⟩
  | .local _ .vmem, ⟨24, _⟩ => ⟨S1024x128, .f32⟩
  | .local _ .smem, ⟨0, _⟩ => ⟨S1x512, .i32⟩
  | _, _ => ⟨S1x64x512x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg16_1 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c511_i32 : BitVec 32 := 511#32
  let arg0 : BitVec 32 := BitVec.ofNat 32 (i 0).val
  let c32_i32 : BitVec 32 := 32#32
  let v36 : BitVec 32 := Scalar.muli arg0 c32_i32
  let c0_i32_42 : BitVec 32 := 0#32
  let v37 : BitVec 32 := Scalar.addi v36 c0_i32_42
  let v38 : BitVec 32 := Scalar.subi c511_i32 v37
  let v39 : Index := Scalar.indexCast v38
  let c0_43 : Index := 0#32
  ![v39.toNat, 0]
def k0_off2 (i : grid0.Coords) : Fin 2 → Nat :=
  let arg0 : BitVec 32 := BitVec.ofNat 32 (i 0).val
  let c32_i32 : BitVec 32 := 32#32
  let v36 : BitVec 32 := Scalar.muli arg0 c32_i32
  let c0_i32_42 : BitVec 32 := 0#32
  let v37 : BitVec 32 := Scalar.addi v36 c0_i32_42
  let v41 : Index := Scalar.indexCast v37
  let c0_44 : Index := 0#32
  ![v41.toNat, 0]
def k0_off3 (i : grid0.Coords) : Fin 2 → Nat :=
  let c0_45 : Index := 0#32
  let arg0 : BitVec 32 := BitVec.ofNat 32 (i 0).val
  let c32_i32 : BitVec 32 := 32#32
  let v36 : BitVec 32 := Scalar.muli arg0 c32_i32
  let c0_i32_42 : BitVec 32 := 0#32
  let v37 : BitVec 32 := Scalar.addi v36 c0_i32_42
  let v43 : Index := Scalar.indexCast v37
  ![0, v43.toNat]
def k0_off4 (v44 : BitVec 32) : Fin 2 → Nat :=
  let c512_i32 : BitVec 32 := 512#32
  let v45 : BitVec 32 := Scalar.muli v44 c512_i32
  let v46 : Index := Scalar.indexCast v45
  let c0_46 : Index := 0#32
  ![v46.toNat, 0]

def k0_chk1 (v44 : BitVec 32) : Prop :=
  (∀ a, (k0_off4 v44) a + S512x128.size a ≤ S1024x128.size a)
theorem k0_off4_inb : ∀ (v44 : BitVec 32) (k0_hw1 : k0_chk1 v44), ∀ a, (k0_off4 v44) a + S512x128.size a ≤ S1024x128.size a := fun v44 k0_hw1 => k0_hw1

def k0_off5 (i : grid0.Coords) : Fin 2 → Nat :=
  let c511_i32_51 : BitVec 32 := 511#32
  let arg0 : BitVec 32 := BitVec.ofNat 32 (i 0).val
  let c32_i32 : BitVec 32 := 32#32
  let v36 : BitVec 32 := Scalar.muli arg0 c32_i32
  let c1_i32 : BitVec 32 := 1#32
  let v54 : BitVec 32 := Scalar.addi v36 c1_i32
  let v55 : BitVec 32 := Scalar.subi c511_i32_51 v54
  let v56 : Index := Scalar.indexCast v55
  let c0_52 : Index := 0#32
  ![v56.toNat, 0]
def k0_off6 (i : grid0.Coords) : Fin 2 → Nat :=
  let arg0 : BitVec 32 := BitVec.ofNat 32 (i 0).val
  let c32_i32 : BitVec 32 := 32#32
  let v36 : BitVec 32 := Scalar.muli arg0 c32_i32
  let c1_i32 : BitVec 32 := 1#32
  let v54 : BitVec 32 := Scalar.addi v36 c1_i32
  let v58 : Index := Scalar.indexCast v54
  let c0_53 : Index := 0#32
  ![v58.toNat, 0]
def k0_off7 (i : grid0.Coords) : Fin 2 → Nat :=
  let c0_54 : Index := 0#32
  let arg0 : BitVec 32 := BitVec.ofNat 32 (i 0).val
  let c32_i32 : BitVec 32 := 32#32
  let v36 : BitVec 32 := Scalar.muli arg0 c32_i32
  let c1_i32 : BitVec 32 := 1#32
  let v54 : BitVec 32 := Scalar.addi v36 c1_i32
  let v60 : Index := Scalar.indexCast v54
  ![0, v60.toNat]
def k0_off8 (v61 : BitVec 32) : Fin 2 → Nat :=
  let c512_i32_55 : BitVec 32 := 512#32
  let v62 : BitVec 32 := Scalar.muli v61 c512_i32_55
  let v63 : Index := Scalar.indexCast v62
  let c0_56 : Index := 0#32
  ![v63.toNat, 0]

def k0_chk2 (v61 : BitVec 32) : Prop :=
  (∀ a, (k0_off8 v61) a + S512x128.size a ≤ S1024x128.size a)
theorem k0_off8_inb : ∀ (v61 : BitVec 32) (k0_hw2 : k0_chk2 v61), ∀ a, (k0_off8 v61) a + S512x128.size a ≤ S1024x128.size a := fun v61 k0_hw2 => k0_hw2

def k0_off9 (i : grid0.Coords) : Fin 2 → Nat :=
  let c511_i32_61 : BitVec 32 := 511#32
  let arg0 : BitVec 32 := BitVec.ofNat 32 (i 0).val
  let c32_i32 : BitVec 32 := 32#32
  let v36 : BitVec 32 := Scalar.muli arg0 c32_i32
  let c2_i32 : BitVec 32 := 2#32
  let v71 : BitVec 32 := Scalar.addi v36 c2_i32
  let v72 : BitVec 32 := Scalar.subi c511_i32_61 v71
  let v73 : Index := Scalar.indexCast v72
  let c0_62 : Index := 0#32
  ![v73.toNat, 0]
def k0_off10 (i : grid0.Coords) : Fin 2 → Nat :=
  let arg0 : BitVec 32 := BitVec.ofNat 32 (i 0).val
  let c32_i32 : BitVec 32 := 32#32
  let v36 : BitVec 32 := Scalar.muli arg0 c32_i32
  let c2_i32 : BitVec 32 := 2#32
  let v71 : BitVec 32 := Scalar.addi v36 c2_i32
  let v75 : Index := Scalar.indexCast v71
  let c0_63 : Index := 0#32
  ![v75.toNat, 0]
def k0_off11 (i : grid0.Coords) : Fin 2 → Nat :=
  let c0_64 : Index := 0#32
  let arg0 : BitVec 32 := BitVec.ofNat 32 (i 0).val
  let c32_i32 : BitVec 32 := 32#32
  let v36 : BitVec 32 := Scalar.muli arg0 c32_i32
  let c2_i32 : BitVec 32 := 2#32
  let v71 : BitVec 32 := Scalar.addi v36 c2_i32
  let v77 : Index := Scalar.indexCast v71
  ![0, v77.toNat]
def k0_off12 (v78 : BitVec 32) : Fin 2 → Nat :=
  let c512_i32_65 : BitVec 32 := 512#32
  let v79 : BitVec 32 := Scalar.muli v78 c512_i32_65
  let v80 : Index := Scalar.indexCast v79
  let c0_66 : Index := 0#32
  ![v80.toNat, 0]

def k0_chk3 (v78 : BitVec 32) : Prop :=
  (∀ a, (k0_off12 v78) a + S512x128.size a ≤ S1024x128.size a)
theorem k0_off12_inb : ∀ (v78 : BitVec 32) (k0_hw3 : k0_chk3 v78), ∀ a, (k0_off12 v78) a + S512x128.size a ≤ S1024x128.size a := fun v78 k0_hw3 => k0_hw3

def k0_off13 (i : grid0.Coords) : Fin 2 → Nat :=
  let c511_i32_71 : BitVec 32 := 511#32
  let arg0 : BitVec 32 := BitVec.ofNat 32 (i 0).val
  let c32_i32 : BitVec 32 := 32#32
  let v36 : BitVec 32 := Scalar.muli arg0 c32_i32
  let c3_i32 : BitVec 32 := 3#32
  let v88 : BitVec 32 := Scalar.addi v36 c3_i32
  let v89 : BitVec 32 := Scalar.subi c511_i32_71 v88
  let v90 : Index := Scalar.indexCast v89
  let c0_72 : Index := 0#32
  ![v90.toNat, 0]
def k0_off14 (i : grid0.Coords) : Fin 2 → Nat :=
  let arg0 : BitVec 32 := BitVec.ofNat 32 (i 0).val
  let c32_i32 : BitVec 32 := 32#32
  let v36 : BitVec 32 := Scalar.muli arg0 c32_i32
  let c3_i32 : BitVec 32 := 3#32
  let v88 : BitVec 32 := Scalar.addi v36 c3_i32
  let v92 : Index := Scalar.indexCast v88
  let c0_73 : Index := 0#32
  ![v92.toNat, 0]
def k0_off15 (i : grid0.Coords) : Fin 2 → Nat :=
  let c0_74 : Index := 0#32
  let arg0 : BitVec 32 := BitVec.ofNat 32 (i 0).val
  let c32_i32 : BitVec 32 := 32#32
  let v36 : BitVec 32 := Scalar.muli arg0 c32_i32
  let c3_i32 : BitVec 32 := 3#32
  let v88 : BitVec 32 := Scalar.addi v36 c3_i32
  let v94 : Index := Scalar.indexCast v88
  ![0, v94.toNat]
def k0_off16 (v95 : BitVec 32) : Fin 2 → Nat :=
  let c512_i32_75 : BitVec 32 := 512#32
  let v96 : BitVec 32 := Scalar.muli v95 c512_i32_75
  let v97 : Index := Scalar.indexCast v96
  let c0_76 : Index := 0#32
  ![v97.toNat, 0]

def k0_chk4 (v95 : BitVec 32) : Prop :=
  (∀ a, (k0_off16 v95) a + S512x128.size a ≤ S1024x128.size a)
theorem k0_off16_inb : ∀ (v95 : BitVec 32) (k0_hw4 : k0_chk4 v95), ∀ a, (k0_off16 v95) a + S512x128.size a ≤ S1024x128.size a := fun v95 k0_hw4 => k0_hw4

def k0_off17 (i : grid0.Coords) : Fin 2 → Nat :=
  let c511_i32_81 : BitVec 32 := 511#32
  let arg0 : BitVec 32 := BitVec.ofNat 32 (i 0).val
  let c32_i32 : BitVec 32 := 32#32
  let v36 : BitVec 32 := Scalar.muli arg0 c32_i32
  let c4_i32 : BitVec 32 := 4#32
  let v105 : BitVec 32 := Scalar.addi v36 c4_i32
  let v106 : BitVec 32 := Scalar.subi c511_i32_81 v105
  let v107 : Index := Scalar.indexCast v106
  let c0_82 : Index := 0#32
  ![v107.toNat, 0]
def k0_off18 (i : grid0.Coords) : Fin 2 → Nat :=
  let arg0 : BitVec 32 := BitVec.ofNat 32 (i 0).val
  let c32_i32 : BitVec 32 := 32#32
  let v36 : BitVec 32 := Scalar.muli arg0 c32_i32
  let c4_i32 : BitVec 32 := 4#32
  let v105 : BitVec 32 := Scalar.addi v36 c4_i32
  let v109 : Index := Scalar.indexCast v105
  let c0_83 : Index := 0#32
  ![v109.toNat, 0]
def k0_off19 (i : grid0.Coords) : Fin 2 → Nat :=
  let c0_84 : Index := 0#32
  let arg0 : BitVec 32 := BitVec.ofNat 32 (i 0).val
  let c32_i32 : BitVec 32 := 32#32
  let v36 : BitVec 32 := Scalar.muli arg0 c32_i32
  let c4_i32 : BitVec 32 := 4#32
  let v105 : BitVec 32 := Scalar.addi v36 c4_i32
  let v111 : Index := Scalar.indexCast v105
  ![0, v111.toNat]
def k0_off20 (v112 : BitVec 32) : Fin 2 → Nat :=
  let c512_i32_85 : BitVec 32 := 512#32
  let v113 : BitVec 32 := Scalar.muli v112 c512_i32_85
  let v114 : Index := Scalar.indexCast v113
  let c0_86 : Index := 0#32
  ![v114.toNat, 0]

def k0_chk5 (v112 : BitVec 32) : Prop :=
  (∀ a, (k0_off20 v112) a + S512x128.size a ≤ S1024x128.size a)
theorem k0_off20_inb : ∀ (v112 : BitVec 32) (k0_hw5 : k0_chk5 v112), ∀ a, (k0_off20 v112) a + S512x128.size a ≤ S1024x128.size a := fun v112 k0_hw5 => k0_hw5

def k0_off21 (i : grid0.Coords) : Fin 2 → Nat :=
  let c511_i32_90 : BitVec 32 := 511#32
  let arg0 : BitVec 32 := BitVec.ofNat 32 (i 0).val
  let c32_i32 : BitVec 32 := 32#32
  let v36 : BitVec 32 := Scalar.muli arg0 c32_i32
  let c5_i32 : BitVec 32 := 5#32
  let v122 : BitVec 32 := Scalar.addi v36 c5_i32
  let v123 : BitVec 32 := Scalar.subi c511_i32_90 v122
  let v124 : Index := Scalar.indexCast v123
  let c0_91 : Index := 0#32
  ![v124.toNat, 0]
def k0_off22 (i : grid0.Coords) : Fin 2 → Nat :=
  let arg0 : BitVec 32 := BitVec.ofNat 32 (i 0).val
  let c32_i32 : BitVec 32 := 32#32
  let v36 : BitVec 32 := Scalar.muli arg0 c32_i32
  let c5_i32 : BitVec 32 := 5#32
  let v122 : BitVec 32 := Scalar.addi v36 c5_i32
  let v126 : Index := Scalar.indexCast v122
  let c0_92 : Index := 0#32
  ![v126.toNat, 0]
def k0_off23 (i : grid0.Coords) : Fin 2 → Nat :=
  let c0_93 : Index := 0#32
  let arg0 : BitVec 32 := BitVec.ofNat 32 (i 0).val
  let c32_i32 : BitVec 32 := 32#32
  let v36 : BitVec 32 := Scalar.muli arg0 c32_i32
  let c5_i32 : BitVec 32 := 5#32
  let v122 : BitVec 32 := Scalar.addi v36 c5_i32
  let v128 : Index := Scalar.indexCast v122
  ![0, v128.toNat]
def k0_off24 (v129 : BitVec 32) : Fin 2 → Nat :=
  let c512_i32_94 : BitVec 32 := 512#32
  let v130 : BitVec 32 := Scalar.muli v129 c512_i32_94
  let v131 : Index := Scalar.indexCast v130
  let c0_95 : Index := 0#32
  ![v131.toNat, 0]

def k0_chk6 (v129 : BitVec 32) : Prop :=
  (∀ a, (k0_off24 v129) a + S512x128.size a ≤ S1024x128.size a)
theorem k0_off24_inb : ∀ (v129 : BitVec 32) (k0_hw6 : k0_chk6 v129), ∀ a, (k0_off24 v129) a + S512x128.size a ≤ S1024x128.size a := fun v129 k0_hw6 => k0_hw6

def k0_off25 (i : grid0.Coords) : Fin 2 → Nat :=
  let c511_i32_99 : BitVec 32 := 511#32
  let arg0 : BitVec 32 := BitVec.ofNat 32 (i 0).val
  let c32_i32 : BitVec 32 := 32#32
  let v36 : BitVec 32 := Scalar.muli arg0 c32_i32
  let c6_i32 : BitVec 32 := 6#32
  let v139 : BitVec 32 := Scalar.addi v36 c6_i32
  let v140 : BitVec 32 := Scalar.subi c511_i32_99 v139
  let v141 : Index := Scalar.indexCast v140
  let c0_100 : Index := 0#32
  ![v141.toNat, 0]
def k0_off26 (i : grid0.Coords) : Fin 2 → Nat :=
  let arg0 : BitVec 32 := BitVec.ofNat 32 (i 0).val
  let c32_i32 : BitVec 32 := 32#32
  let v36 : BitVec 32 := Scalar.muli arg0 c32_i32
  let c6_i32 : BitVec 32 := 6#32
  let v139 : BitVec 32 := Scalar.addi v36 c6_i32
  let v143 : Index := Scalar.indexCast v139
  let c0_101 : Index := 0#32
  ![v143.toNat, 0]
def k0_off27 (i : grid0.Coords) : Fin 2 → Nat :=
  let c0_102 : Index := 0#32
  let arg0 : BitVec 32 := BitVec.ofNat 32 (i 0).val
  let c32_i32 : BitVec 32 := 32#32
  let v36 : BitVec 32 := Scalar.muli arg0 c32_i32
  let c6_i32 : BitVec 32 := 6#32
  let v139 : BitVec 32 := Scalar.addi v36 c6_i32
  let v145 : Index := Scalar.indexCast v139
  ![0, v145.toNat]
def k0_off28 (v146 : BitVec 32) : Fin 2 → Nat :=
  let c512_i32_103 : BitVec 32 := 512#32
  let v147 : BitVec 32 := Scalar.muli v146 c512_i32_103
  let v148 : Index := Scalar.indexCast v147
  let c0_104 : Index := 0#32
  ![v148.toNat, 0]

def k0_chk7 (v146 : BitVec 32) : Prop :=
  (∀ a, (k0_off28 v146) a + S512x128.size a ≤ S1024x128.size a)
theorem k0_off28_inb : ∀ (v146 : BitVec 32) (k0_hw7 : k0_chk7 v146), ∀ a, (k0_off28 v146) a + S512x128.size a ≤ S1024x128.size a := fun v146 k0_hw7 => k0_hw7

def k0_off29 (i : grid0.Coords) : Fin 2 → Nat :=
  let c511_i32_108 : BitVec 32 := 511#32
  let arg0 : BitVec 32 := BitVec.ofNat 32 (i 0).val
  let c32_i32 : BitVec 32 := 32#32
  let v36 : BitVec 32 := Scalar.muli arg0 c32_i32
  let c7_i32 : BitVec 32 := 7#32
  let v156 : BitVec 32 := Scalar.addi v36 c7_i32
  let v157 : BitVec 32 := Scalar.subi c511_i32_108 v156
  let v158 : Index := Scalar.indexCast v157
  let c0_109 : Index := 0#32
  ![v158.toNat, 0]
def k0_off30 (i : grid0.Coords) : Fin 2 → Nat :=
  let arg0 : BitVec 32 := BitVec.ofNat 32 (i 0).val
  let c32_i32 : BitVec 32 := 32#32
  let v36 : BitVec 32 := Scalar.muli arg0 c32_i32
  let c7_i32 : BitVec 32 := 7#32
  let v156 : BitVec 32 := Scalar.addi v36 c7_i32
  let v160 : Index := Scalar.indexCast v156
  let c0_110 : Index := 0#32
  ![v160.toNat, 0]
def k0_off31 (i : grid0.Coords) : Fin 2 → Nat :=
  let c0_111 : Index := 0#32
  let arg0 : BitVec 32 := BitVec.ofNat 32 (i 0).val
  let c32_i32 : BitVec 32 := 32#32
  let v36 : BitVec 32 := Scalar.muli arg0 c32_i32
  let c7_i32 : BitVec 32 := 7#32
  let v156 : BitVec 32 := Scalar.addi v36 c7_i32
  let v162 : Index := Scalar.indexCast v156
  ![0, v162.toNat]
def k0_off32 (v163 : BitVec 32) : Fin 2 → Nat :=
  let c512_i32_112 : BitVec 32 := 512#32
  let v164 : BitVec 32 := Scalar.muli v163 c512_i32_112
  let v165 : Index := Scalar.indexCast v164
  let c0_113 : Index := 0#32
  ![v165.toNat, 0]

def k0_chk8 (v163 : BitVec 32) : Prop :=
  (∀ a, (k0_off32 v163) a + S512x128.size a ≤ S1024x128.size a)
theorem k0_off32_inb : ∀ (v163 : BitVec 32) (k0_hw8 : k0_chk8 v163), ∀ a, (k0_off32 v163) a + S512x128.size a ≤ S1024x128.size a := fun v163 k0_hw8 => k0_hw8

def k0_off33 (i : grid0.Coords) : Fin 2 → Nat :=
  let c511_i32_117 : BitVec 32 := 511#32
  let arg0 : BitVec 32 := BitVec.ofNat 32 (i 0).val
  let c32_i32 : BitVec 32 := 32#32
  let v36 : BitVec 32 := Scalar.muli arg0 c32_i32
  let c8_i32 : BitVec 32 := 8#32
  let v173 : BitVec 32 := Scalar.addi v36 c8_i32
  let v174 : BitVec 32 := Scalar.subi c511_i32_117 v173
  let v175 : Index := Scalar.indexCast v174
  let c0_118 : Index := 0#32
  ![v175.toNat, 0]
def k0_off34 (i : grid0.Coords) : Fin 2 → Nat :=
  let arg0 : BitVec 32 := BitVec.ofNat 32 (i 0).val
  let c32_i32 : BitVec 32 := 32#32
  let v36 : BitVec 32 := Scalar.muli arg0 c32_i32
  let c8_i32 : BitVec 32 := 8#32
  let v173 : BitVec 32 := Scalar.addi v36 c8_i32
  let v177 : Index := Scalar.indexCast v173
  let c0_119 : Index := 0#32
  ![v177.toNat, 0]
def k0_off35 (i : grid0.Coords) : Fin 2 → Nat :=
  let c0_120 : Index := 0#32
  let arg0 : BitVec 32 := BitVec.ofNat 32 (i 0).val
  let c32_i32 : BitVec 32 := 32#32
  let v36 : BitVec 32 := Scalar.muli arg0 c32_i32
  let c8_i32 : BitVec 32 := 8#32
  let v173 : BitVec 32 := Scalar.addi v36 c8_i32
  let v179 : Index := Scalar.indexCast v173
  ![0, v179.toNat]
def k0_off36 (v180 : BitVec 32) : Fin 2 → Nat :=
  let c512_i32_121 : BitVec 32 := 512#32
  let v181 : BitVec 32 := Scalar.muli v180 c512_i32_121
  let v182 : Index := Scalar.indexCast v181
  let c0_122 : Index := 0#32
  ![v182.toNat, 0]

def k0_chk9 (v180 : BitVec 32) : Prop :=
  (∀ a, (k0_off36 v180) a + S512x128.size a ≤ S1024x128.size a)
theorem k0_off36_inb : ∀ (v180 : BitVec 32) (k0_hw9 : k0_chk9 v180), ∀ a, (k0_off36 v180) a + S512x128.size a ≤ S1024x128.size a := fun v180 k0_hw9 => k0_hw9

def k0_off37 (i : grid0.Coords) : Fin 2 → Nat :=
  let c511_i32_126 : BitVec 32 := 511#32
  let arg0 : BitVec 32 := BitVec.ofNat 32 (i 0).val
  let c32_i32 : BitVec 32 := 32#32
  let v36 : BitVec 32 := Scalar.muli arg0 c32_i32
  let c9_i32 : BitVec 32 := 9#32
  let v190 : BitVec 32 := Scalar.addi v36 c9_i32
  let v191 : BitVec 32 := Scalar.subi c511_i32_126 v190
  let v192 : Index := Scalar.indexCast v191
  let c0_127 : Index := 0#32
  ![v192.toNat, 0]
def k0_off38 (i : grid0.Coords) : Fin 2 → Nat :=
  let arg0 : BitVec 32 := BitVec.ofNat 32 (i 0).val
  let c32_i32 : BitVec 32 := 32#32
  let v36 : BitVec 32 := Scalar.muli arg0 c32_i32
  let c9_i32 : BitVec 32 := 9#32
  let v190 : BitVec 32 := Scalar.addi v36 c9_i32
  let v194 : Index := Scalar.indexCast v190
  let c0_128 : Index := 0#32
  ![v194.toNat, 0]
def k0_off39 (i : grid0.Coords) : Fin 2 → Nat :=
  let c0_129 : Index := 0#32
  let arg0 : BitVec 32 := BitVec.ofNat 32 (i 0).val
  let c32_i32 : BitVec 32 := 32#32
  let v36 : BitVec 32 := Scalar.muli arg0 c32_i32
  let c9_i32 : BitVec 32 := 9#32
  let v190 : BitVec 32 := Scalar.addi v36 c9_i32
  let v196 : Index := Scalar.indexCast v190
  ![0, v196.toNat]
def k0_off40 (v197 : BitVec 32) : Fin 2 → Nat :=
  let c512_i32_130 : BitVec 32 := 512#32
  let v198 : BitVec 32 := Scalar.muli v197 c512_i32_130
  let v199 : Index := Scalar.indexCast v198
  let c0_131 : Index := 0#32
  ![v199.toNat, 0]

def k0_chk10 (v197 : BitVec 32) : Prop :=
  (∀ a, (k0_off40 v197) a + S512x128.size a ≤ S1024x128.size a)
theorem k0_off40_inb : ∀ (v197 : BitVec 32) (k0_hw10 : k0_chk10 v197), ∀ a, (k0_off40 v197) a + S512x128.size a ≤ S1024x128.size a := fun v197 k0_hw10 => k0_hw10

def k0_off41 (i : grid0.Coords) : Fin 2 → Nat :=
  let c511_i32_135 : BitVec 32 := 511#32
  let arg0 : BitVec 32 := BitVec.ofNat 32 (i 0).val
  let c32_i32 : BitVec 32 := 32#32
  let v36 : BitVec 32 := Scalar.muli arg0 c32_i32
  let c10_i32 : BitVec 32 := 10#32
  let v207 : BitVec 32 := Scalar.addi v36 c10_i32
  let v208 : BitVec 32 := Scalar.subi c511_i32_135 v207
  let v209 : Index := Scalar.indexCast v208
  let c0_136 : Index := 0#32
  ![v209.toNat, 0]
def k0_off42 (i : grid0.Coords) : Fin 2 → Nat :=
  let arg0 : BitVec 32 := BitVec.ofNat 32 (i 0).val
  let c32_i32 : BitVec 32 := 32#32
  let v36 : BitVec 32 := Scalar.muli arg0 c32_i32
  let c10_i32 : BitVec 32 := 10#32
  let v207 : BitVec 32 := Scalar.addi v36 c10_i32
  let v211 : Index := Scalar.indexCast v207
  let c0_137 : Index := 0#32
  ![v211.toNat, 0]
def k0_off43 (i : grid0.Coords) : Fin 2 → Nat :=
  let c0_138 : Index := 0#32
  let arg0 : BitVec 32 := BitVec.ofNat 32 (i 0).val
  let c32_i32 : BitVec 32 := 32#32
  let v36 : BitVec 32 := Scalar.muli arg0 c32_i32
  let c10_i32 : BitVec 32 := 10#32
  let v207 : BitVec 32 := Scalar.addi v36 c10_i32
  let v213 : Index := Scalar.indexCast v207
  ![0, v213.toNat]
def k0_off44 (v214 : BitVec 32) : Fin 2 → Nat :=
  let c512_i32_139 : BitVec 32 := 512#32
  let v215 : BitVec 32 := Scalar.muli v214 c512_i32_139
  let v216 : Index := Scalar.indexCast v215
  let c0_140 : Index := 0#32
  ![v216.toNat, 0]

def k0_chk11 (v214 : BitVec 32) : Prop :=
  (∀ a, (k0_off44 v214) a + S512x128.size a ≤ S1024x128.size a)
theorem k0_off44_inb : ∀ (v214 : BitVec 32) (k0_hw11 : k0_chk11 v214), ∀ a, (k0_off44 v214) a + S512x128.size a ≤ S1024x128.size a := fun v214 k0_hw11 => k0_hw11

def k0_off45 (i : grid0.Coords) : Fin 2 → Nat :=
  let c511_i32_144 : BitVec 32 := 511#32
  let arg0 : BitVec 32 := BitVec.ofNat 32 (i 0).val
  let c32_i32 : BitVec 32 := 32#32
  let v36 : BitVec 32 := Scalar.muli arg0 c32_i32
  let c11_i32 : BitVec 32 := 11#32
  let v224 : BitVec 32 := Scalar.addi v36 c11_i32
  let v225 : BitVec 32 := Scalar.subi c511_i32_144 v224
  let v226 : Index := Scalar.indexCast v225
  let c0_145 : Index := 0#32
  ![v226.toNat, 0]
def k0_off46 (i : grid0.Coords) : Fin 2 → Nat :=
  let arg0 : BitVec 32 := BitVec.ofNat 32 (i 0).val
  let c32_i32 : BitVec 32 := 32#32
  let v36 : BitVec 32 := Scalar.muli arg0 c32_i32
  let c11_i32 : BitVec 32 := 11#32
  let v224 : BitVec 32 := Scalar.addi v36 c11_i32
  let v228 : Index := Scalar.indexCast v224
  let c0_146 : Index := 0#32
  ![v228.toNat, 0]
def k0_off47 (i : grid0.Coords) : Fin 2 → Nat :=
  let c0_147 : Index := 0#32
  let arg0 : BitVec 32 := BitVec.ofNat 32 (i 0).val
  let c32_i32 : BitVec 32 := 32#32
  let v36 : BitVec 32 := Scalar.muli arg0 c32_i32
  let c11_i32 : BitVec 32 := 11#32
  let v224 : BitVec 32 := Scalar.addi v36 c11_i32
  let v230 : Index := Scalar.indexCast v224
  ![0, v230.toNat]
def k0_off48 (v231 : BitVec 32) : Fin 2 → Nat :=
  let c512_i32_148 : BitVec 32 := 512#32
  let v232 : BitVec 32 := Scalar.muli v231 c512_i32_148
  let v233 : Index := Scalar.indexCast v232
  let c0_149 : Index := 0#32
  ![v233.toNat, 0]

def k0_chk12 (v231 : BitVec 32) : Prop :=
  (∀ a, (k0_off48 v231) a + S512x128.size a ≤ S1024x128.size a)
theorem k0_off48_inb : ∀ (v231 : BitVec 32) (k0_hw12 : k0_chk12 v231), ∀ a, (k0_off48 v231) a + S512x128.size a ≤ S1024x128.size a := fun v231 k0_hw12 => k0_hw12

def k0_off49 (i : grid0.Coords) : Fin 2 → Nat :=
  let c511_i32_153 : BitVec 32 := 511#32
  let arg0 : BitVec 32 := BitVec.ofNat 32 (i 0).val
  let c32_i32 : BitVec 32 := 32#32
  let v36 : BitVec 32 := Scalar.muli arg0 c32_i32
  let c12_i32 : BitVec 32 := 12#32
  let v241 : BitVec 32 := Scalar.addi v36 c12_i32
  let v242 : BitVec 32 := Scalar.subi c511_i32_153 v241
  let v243 : Index := Scalar.indexCast v242
  let c0_154 : Index := 0#32
  ![v243.toNat, 0]
def k0_off50 (i : grid0.Coords) : Fin 2 → Nat :=
  let arg0 : BitVec 32 := BitVec.ofNat 32 (i 0).val
  let c32_i32 : BitVec 32 := 32#32
  let v36 : BitVec 32 := Scalar.muli arg0 c32_i32
  let c12_i32 : BitVec 32 := 12#32
  let v241 : BitVec 32 := Scalar.addi v36 c12_i32
  let v245 : Index := Scalar.indexCast v241
  let c0_155 : Index := 0#32
  ![v245.toNat, 0]
def k0_off51 (i : grid0.Coords) : Fin 2 → Nat :=
  let c0_156 : Index := 0#32
  let arg0 : BitVec 32 := BitVec.ofNat 32 (i 0).val
  let c32_i32 : BitVec 32 := 32#32
  let v36 : BitVec 32 := Scalar.muli arg0 c32_i32
  let c12_i32 : BitVec 32 := 12#32
  let v241 : BitVec 32 := Scalar.addi v36 c12_i32
  let v247 : Index := Scalar.indexCast v241
  ![0, v247.toNat]
def k0_off52 (v248 : BitVec 32) : Fin 2 → Nat :=
  let c512_i32_157 : BitVec 32 := 512#32
  let v249 : BitVec 32 := Scalar.muli v248 c512_i32_157
  let v250 : Index := Scalar.indexCast v249
  let c0_158 : Index := 0#32
  ![v250.toNat, 0]

def k0_chk13 (v248 : BitVec 32) : Prop :=
  (∀ a, (k0_off52 v248) a + S512x128.size a ≤ S1024x128.size a)
theorem k0_off52_inb : ∀ (v248 : BitVec 32) (k0_hw13 : k0_chk13 v248), ∀ a, (k0_off52 v248) a + S512x128.size a ≤ S1024x128.size a := fun v248 k0_hw13 => k0_hw13

def k0_off53 (i : grid0.Coords) : Fin 2 → Nat :=
  let c511_i32_162 : BitVec 32 := 511#32
  let arg0 : BitVec 32 := BitVec.ofNat 32 (i 0).val
  let c32_i32 : BitVec 32 := 32#32
  let v36 : BitVec 32 := Scalar.muli arg0 c32_i32
  let c13_i32 : BitVec 32 := 13#32
  let v258 : BitVec 32 := Scalar.addi v36 c13_i32
  let v259 : BitVec 32 := Scalar.subi c511_i32_162 v258
  let v260 : Index := Scalar.indexCast v259
  let c0_163 : Index := 0#32
  ![v260.toNat, 0]
def k0_off54 (i : grid0.Coords) : Fin 2 → Nat :=
  let arg0 : BitVec 32 := BitVec.ofNat 32 (i 0).val
  let c32_i32 : BitVec 32 := 32#32
  let v36 : BitVec 32 := Scalar.muli arg0 c32_i32
  let c13_i32 : BitVec 32 := 13#32
  let v258 : BitVec 32 := Scalar.addi v36 c13_i32
  let v262 : Index := Scalar.indexCast v258
  let c0_164 : Index := 0#32
  ![v262.toNat, 0]
def k0_off55 (i : grid0.Coords) : Fin 2 → Nat :=
  let c0_165 : Index := 0#32
  let arg0 : BitVec 32 := BitVec.ofNat 32 (i 0).val
  let c32_i32 : BitVec 32 := 32#32
  let v36 : BitVec 32 := Scalar.muli arg0 c32_i32
  let c13_i32 : BitVec 32 := 13#32
  let v258 : BitVec 32 := Scalar.addi v36 c13_i32
  let v264 : Index := Scalar.indexCast v258
  ![0, v264.toNat]
def k0_off56 (v265 : BitVec 32) : Fin 2 → Nat :=
  let c512_i32_166 : BitVec 32 := 512#32
  let v266 : BitVec 32 := Scalar.muli v265 c512_i32_166
  let v267 : Index := Scalar.indexCast v266
  let c0_167 : Index := 0#32
  ![v267.toNat, 0]

def k0_chk14 (v265 : BitVec 32) : Prop :=
  (∀ a, (k0_off56 v265) a + S512x128.size a ≤ S1024x128.size a)
theorem k0_off56_inb : ∀ (v265 : BitVec 32) (k0_hw14 : k0_chk14 v265), ∀ a, (k0_off56 v265) a + S512x128.size a ≤ S1024x128.size a := fun v265 k0_hw14 => k0_hw14

def k0_off57 (i : grid0.Coords) : Fin 2 → Nat :=
  let c511_i32_171 : BitVec 32 := 511#32
  let arg0 : BitVec 32 := BitVec.ofNat 32 (i 0).val
  let c32_i32 : BitVec 32 := 32#32
  let v36 : BitVec 32 := Scalar.muli arg0 c32_i32
  let c14_i32 : BitVec 32 := 14#32
  let v275 : BitVec 32 := Scalar.addi v36 c14_i32
  let v276 : BitVec 32 := Scalar.subi c511_i32_171 v275
  let v277 : Index := Scalar.indexCast v276
  let c0_172 : Index := 0#32
  ![v277.toNat, 0]
def k0_off58 (i : grid0.Coords) : Fin 2 → Nat :=
  let arg0 : BitVec 32 := BitVec.ofNat 32 (i 0).val
  let c32_i32 : BitVec 32 := 32#32
  let v36 : BitVec 32 := Scalar.muli arg0 c32_i32
  let c14_i32 : BitVec 32 := 14#32
  let v275 : BitVec 32 := Scalar.addi v36 c14_i32
  let v279 : Index := Scalar.indexCast v275
  let c0_173 : Index := 0#32
  ![v279.toNat, 0]
def k0_off59 (i : grid0.Coords) : Fin 2 → Nat :=
  let c0_174 : Index := 0#32
  let arg0 : BitVec 32 := BitVec.ofNat 32 (i 0).val
  let c32_i32 : BitVec 32 := 32#32
  let v36 : BitVec 32 := Scalar.muli arg0 c32_i32
  let c14_i32 : BitVec 32 := 14#32
  let v275 : BitVec 32 := Scalar.addi v36 c14_i32
  let v281 : Index := Scalar.indexCast v275
  ![0, v281.toNat]
def k0_off60 (v282 : BitVec 32) : Fin 2 → Nat :=
  let c512_i32_175 : BitVec 32 := 512#32
  let v283 : BitVec 32 := Scalar.muli v282 c512_i32_175
  let v284 : Index := Scalar.indexCast v283
  let c0_176 : Index := 0#32
  ![v284.toNat, 0]

def k0_chk15 (v282 : BitVec 32) : Prop :=
  (∀ a, (k0_off60 v282) a + S512x128.size a ≤ S1024x128.size a)
theorem k0_off60_inb : ∀ (v282 : BitVec 32) (k0_hw15 : k0_chk15 v282), ∀ a, (k0_off60 v282) a + S512x128.size a ≤ S1024x128.size a := fun v282 k0_hw15 => k0_hw15

def k0_off61 (i : grid0.Coords) : Fin 2 → Nat :=
  let c511_i32_180 : BitVec 32 := 511#32
  let arg0 : BitVec 32 := BitVec.ofNat 32 (i 0).val
  let c32_i32 : BitVec 32 := 32#32
  let v36 : BitVec 32 := Scalar.muli arg0 c32_i32
  let c15_i32 : BitVec 32 := 15#32
  let v292 : BitVec 32 := Scalar.addi v36 c15_i32
  let v293 : BitVec 32 := Scalar.subi c511_i32_180 v292
  let v294 : Index := Scalar.indexCast v293
  let c0_181 : Index := 0#32
  ![v294.toNat, 0]
def k0_off62 (i : grid0.Coords) : Fin 2 → Nat :=
  let arg0 : BitVec 32 := BitVec.ofNat 32 (i 0).val
  let c32_i32 : BitVec 32 := 32#32
  let v36 : BitVec 32 := Scalar.muli arg0 c32_i32
  let c15_i32 : BitVec 32 := 15#32
  let v292 : BitVec 32 := Scalar.addi v36 c15_i32
  let v296 : Index := Scalar.indexCast v292
  let c0_182 : Index := 0#32
  ![v296.toNat, 0]
def k0_off63 (i : grid0.Coords) : Fin 2 → Nat :=
  let c0_183 : Index := 0#32
  let arg0 : BitVec 32 := BitVec.ofNat 32 (i 0).val
  let c32_i32 : BitVec 32 := 32#32
  let v36 : BitVec 32 := Scalar.muli arg0 c32_i32
  let c15_i32 : BitVec 32 := 15#32
  let v292 : BitVec 32 := Scalar.addi v36 c15_i32
  let v298 : Index := Scalar.indexCast v292
  ![0, v298.toNat]
def k0_off64 (v299 : BitVec 32) : Fin 2 → Nat :=
  let c512_i32_184 : BitVec 32 := 512#32
  let v300 : BitVec 32 := Scalar.muli v299 c512_i32_184
  let v301 : Index := Scalar.indexCast v300
  let c0_185 : Index := 0#32
  ![v301.toNat, 0]

def k0_chk16 (v299 : BitVec 32) : Prop :=
  (∀ a, (k0_off64 v299) a + S512x128.size a ≤ S1024x128.size a)
theorem k0_off64_inb : ∀ (v299 : BitVec 32) (k0_hw16 : k0_chk16 v299), ∀ a, (k0_off64 v299) a + S512x128.size a ≤ S1024x128.size a := fun v299 k0_hw16 => k0_hw16

def k0_off65 (i : grid0.Coords) : Fin 2 → Nat :=
  let c511_i32_189 : BitVec 32 := 511#32
  let arg0 : BitVec 32 := BitVec.ofNat 32 (i 0).val
  let c32_i32 : BitVec 32 := 32#32
  let v36 : BitVec 32 := Scalar.muli arg0 c32_i32
  let c16_i32 : BitVec 32 := 16#32
  let v309 : BitVec 32 := Scalar.addi v36 c16_i32
  let v310 : BitVec 32 := Scalar.subi c511_i32_189 v309
  let v311 : Index := Scalar.indexCast v310
  let c0_190 : Index := 0#32
  ![v311.toNat, 0]
def k0_off66 (i : grid0.Coords) : Fin 2 → Nat :=
  let arg0 : BitVec 32 := BitVec.ofNat 32 (i 0).val
  let c32_i32 : BitVec 32 := 32#32
  let v36 : BitVec 32 := Scalar.muli arg0 c32_i32
  let c16_i32 : BitVec 32 := 16#32
  let v309 : BitVec 32 := Scalar.addi v36 c16_i32
  let v313 : Index := Scalar.indexCast v309
  let c0_191 : Index := 0#32
  ![v313.toNat, 0]
def k0_off67 (i : grid0.Coords) : Fin 2 → Nat :=
  let c0_192 : Index := 0#32
  let arg0 : BitVec 32 := BitVec.ofNat 32 (i 0).val
  let c32_i32 : BitVec 32 := 32#32
  let v36 : BitVec 32 := Scalar.muli arg0 c32_i32
  let c16_i32 : BitVec 32 := 16#32
  let v309 : BitVec 32 := Scalar.addi v36 c16_i32
  let v315 : Index := Scalar.indexCast v309
  ![0, v315.toNat]
def k0_off68 (v316 : BitVec 32) : Fin 2 → Nat :=
  let c512_i32_193 : BitVec 32 := 512#32
  let v317 : BitVec 32 := Scalar.muli v316 c512_i32_193
  let v318 : Index := Scalar.indexCast v317
  let c0_194 : Index := 0#32
  ![v318.toNat, 0]

def k0_chk17 (v316 : BitVec 32) : Prop :=
  (∀ a, (k0_off68 v316) a + S512x128.size a ≤ S1024x128.size a)
theorem k0_off68_inb : ∀ (v316 : BitVec 32) (k0_hw17 : k0_chk17 v316), ∀ a, (k0_off68 v316) a + S512x128.size a ≤ S1024x128.size a := fun v316 k0_hw17 => k0_hw17

def k0_off69 (i : grid0.Coords) : Fin 2 → Nat :=
  let c511_i32_198 : BitVec 32 := 511#32
  let arg0 : BitVec 32 := BitVec.ofNat 32 (i 0).val
  let c32_i32 : BitVec 32 := 32#32
  let v36 : BitVec 32 := Scalar.muli arg0 c32_i32
  let c17_i32 : BitVec 32 := 17#32
  let v326 : BitVec 32 := Scalar.addi v36 c17_i32
  let v327 : BitVec 32 := Scalar.subi c511_i32_198 v326
  let v328 : Index := Scalar.indexCast v327
  let c0_199 : Index := 0#32
  ![v328.toNat, 0]
def k0_off70 (i : grid0.Coords) : Fin 2 → Nat :=
  let arg0 : BitVec 32 := BitVec.ofNat 32 (i 0).val
  let c32_i32 : BitVec 32 := 32#32
  let v36 : BitVec 32 := Scalar.muli arg0 c32_i32
  let c17_i32 : BitVec 32 := 17#32
  let v326 : BitVec 32 := Scalar.addi v36 c17_i32
  let v330 : Index := Scalar.indexCast v326
  let c0_200 : Index := 0#32
  ![v330.toNat, 0]
def k0_off71 (i : grid0.Coords) : Fin 2 → Nat :=
  let c0_201 : Index := 0#32
  let arg0 : BitVec 32 := BitVec.ofNat 32 (i 0).val
  let c32_i32 : BitVec 32 := 32#32
  let v36 : BitVec 32 := Scalar.muli arg0 c32_i32
  let c17_i32 : BitVec 32 := 17#32
  let v326 : BitVec 32 := Scalar.addi v36 c17_i32
  let v332 : Index := Scalar.indexCast v326
  ![0, v332.toNat]
def k0_off72 (v333 : BitVec 32) : Fin 2 → Nat :=
  let c512_i32_202 : BitVec 32 := 512#32
  let v334 : BitVec 32 := Scalar.muli v333 c512_i32_202
  let v335 : Index := Scalar.indexCast v334
  let c0_203 : Index := 0#32
  ![v335.toNat, 0]

def k0_chk18 (v333 : BitVec 32) : Prop :=
  (∀ a, (k0_off72 v333) a + S512x128.size a ≤ S1024x128.size a)
theorem k0_off72_inb : ∀ (v333 : BitVec 32) (k0_hw18 : k0_chk18 v333), ∀ a, (k0_off72 v333) a + S512x128.size a ≤ S1024x128.size a := fun v333 k0_hw18 => k0_hw18

def k0_off73 (i : grid0.Coords) : Fin 2 → Nat :=
  let c511_i32_207 : BitVec 32 := 511#32
  let arg0 : BitVec 32 := BitVec.ofNat 32 (i 0).val
  let c32_i32 : BitVec 32 := 32#32
  let v36 : BitVec 32 := Scalar.muli arg0 c32_i32
  let c18_i32 : BitVec 32 := 18#32
  let v343 : BitVec 32 := Scalar.addi v36 c18_i32
  let v344 : BitVec 32 := Scalar.subi c511_i32_207 v343
  let v345 : Index := Scalar.indexCast v344
  let c0_208 : Index := 0#32
  ![v345.toNat, 0]
def k0_off74 (i : grid0.Coords) : Fin 2 → Nat :=
  let arg0 : BitVec 32 := BitVec.ofNat 32 (i 0).val
  let c32_i32 : BitVec 32 := 32#32
  let v36 : BitVec 32 := Scalar.muli arg0 c32_i32
  let c18_i32 : BitVec 32 := 18#32
  let v343 : BitVec 32 := Scalar.addi v36 c18_i32
  let v347 : Index := Scalar.indexCast v343
  let c0_209 : Index := 0#32
  ![v347.toNat, 0]
def k0_off75 (i : grid0.Coords) : Fin 2 → Nat :=
  let c0_210 : Index := 0#32
  let arg0 : BitVec 32 := BitVec.ofNat 32 (i 0).val
  let c32_i32 : BitVec 32 := 32#32
  let v36 : BitVec 32 := Scalar.muli arg0 c32_i32
  let c18_i32 : BitVec 32 := 18#32
  let v343 : BitVec 32 := Scalar.addi v36 c18_i32
  let v349 : Index := Scalar.indexCast v343
  ![0, v349.toNat]
def k0_off76 (v350 : BitVec 32) : Fin 2 → Nat :=
  let c512_i32_211 : BitVec 32 := 512#32
  let v351 : BitVec 32 := Scalar.muli v350 c512_i32_211
  let v352 : Index := Scalar.indexCast v351
  let c0_212 : Index := 0#32
  ![v352.toNat, 0]

def k0_chk19 (v350 : BitVec 32) : Prop :=
  (∀ a, (k0_off76 v350) a + S512x128.size a ≤ S1024x128.size a)
theorem k0_off76_inb : ∀ (v350 : BitVec 32) (k0_hw19 : k0_chk19 v350), ∀ a, (k0_off76 v350) a + S512x128.size a ≤ S1024x128.size a := fun v350 k0_hw19 => k0_hw19

def k0_off77 (i : grid0.Coords) : Fin 2 → Nat :=
  let c511_i32_216 : BitVec 32 := 511#32
  let arg0 : BitVec 32 := BitVec.ofNat 32 (i 0).val
  let c32_i32 : BitVec 32 := 32#32
  let v36 : BitVec 32 := Scalar.muli arg0 c32_i32
  let c19_i32 : BitVec 32 := 19#32
  let v360 : BitVec 32 := Scalar.addi v36 c19_i32
  let v361 : BitVec 32 := Scalar.subi c511_i32_216 v360
  let v362 : Index := Scalar.indexCast v361
  let c0_217 : Index := 0#32
  ![v362.toNat, 0]
def k0_off78 (i : grid0.Coords) : Fin 2 → Nat :=
  let arg0 : BitVec 32 := BitVec.ofNat 32 (i 0).val
  let c32_i32 : BitVec 32 := 32#32
  let v36 : BitVec 32 := Scalar.muli arg0 c32_i32
  let c19_i32 : BitVec 32 := 19#32
  let v360 : BitVec 32 := Scalar.addi v36 c19_i32
  let v364 : Index := Scalar.indexCast v360
  let c0_218 : Index := 0#32
  ![v364.toNat, 0]
def k0_off79 (i : grid0.Coords) : Fin 2 → Nat :=
  let c0_219 : Index := 0#32
  let arg0 : BitVec 32 := BitVec.ofNat 32 (i 0).val
  let c32_i32 : BitVec 32 := 32#32
  let v36 : BitVec 32 := Scalar.muli arg0 c32_i32
  let c19_i32 : BitVec 32 := 19#32
  let v360 : BitVec 32 := Scalar.addi v36 c19_i32
  let v366 : Index := Scalar.indexCast v360
  ![0, v366.toNat]
def k0_off80 (v367 : BitVec 32) : Fin 2 → Nat :=
  let c512_i32_220 : BitVec 32 := 512#32
  let v368 : BitVec 32 := Scalar.muli v367 c512_i32_220
  let v369 : Index := Scalar.indexCast v368
  let c0_221 : Index := 0#32
  ![v369.toNat, 0]

def k0_chk20 (v367 : BitVec 32) : Prop :=
  (∀ a, (k0_off80 v367) a + S512x128.size a ≤ S1024x128.size a)
theorem k0_off80_inb : ∀ (v367 : BitVec 32) (k0_hw20 : k0_chk20 v367), ∀ a, (k0_off80 v367) a + S512x128.size a ≤ S1024x128.size a := fun v367 k0_hw20 => k0_hw20

def k0_off81 (i : grid0.Coords) : Fin 2 → Nat :=
  let c511_i32_225 : BitVec 32 := 511#32
  let arg0 : BitVec 32 := BitVec.ofNat 32 (i 0).val
  let c32_i32 : BitVec 32 := 32#32
  let v36 : BitVec 32 := Scalar.muli arg0 c32_i32
  let c20_i32 : BitVec 32 := 20#32
  let v377 : BitVec 32 := Scalar.addi v36 c20_i32
  let v378 : BitVec 32 := Scalar.subi c511_i32_225 v377
  let v379 : Index := Scalar.indexCast v378
  let c0_226 : Index := 0#32
  ![v379.toNat, 0]
def k0_off82 (i : grid0.Coords) : Fin 2 → Nat :=
  let arg0 : BitVec 32 := BitVec.ofNat 32 (i 0).val
  let c32_i32 : BitVec 32 := 32#32
  let v36 : BitVec 32 := Scalar.muli arg0 c32_i32
  let c20_i32 : BitVec 32 := 20#32
  let v377 : BitVec 32 := Scalar.addi v36 c20_i32
  let v381 : Index := Scalar.indexCast v377
  let c0_227 : Index := 0#32
  ![v381.toNat, 0]
def k0_off83 (i : grid0.Coords) : Fin 2 → Nat :=
  let c0_228 : Index := 0#32
  let arg0 : BitVec 32 := BitVec.ofNat 32 (i 0).val
  let c32_i32 : BitVec 32 := 32#32
  let v36 : BitVec 32 := Scalar.muli arg0 c32_i32
  let c20_i32 : BitVec 32 := 20#32
  let v377 : BitVec 32 := Scalar.addi v36 c20_i32
  let v383 : Index := Scalar.indexCast v377
  ![0, v383.toNat]
def k0_off84 (v384 : BitVec 32) : Fin 2 → Nat :=
  let c512_i32_229 : BitVec 32 := 512#32
  let v385 : BitVec 32 := Scalar.muli v384 c512_i32_229
  let v386 : Index := Scalar.indexCast v385
  let c0_230 : Index := 0#32
  ![v386.toNat, 0]

def k0_chk21 (v384 : BitVec 32) : Prop :=
  (∀ a, (k0_off84 v384) a + S512x128.size a ≤ S1024x128.size a)
theorem k0_off84_inb : ∀ (v384 : BitVec 32) (k0_hw21 : k0_chk21 v384), ∀ a, (k0_off84 v384) a + S512x128.size a ≤ S1024x128.size a := fun v384 k0_hw21 => k0_hw21

def k0_off85 (i : grid0.Coords) : Fin 2 → Nat :=
  let c511_i32_234 : BitVec 32 := 511#32
  let arg0 : BitVec 32 := BitVec.ofNat 32 (i 0).val
  let c32_i32 : BitVec 32 := 32#32
  let v36 : BitVec 32 := Scalar.muli arg0 c32_i32
  let c21_i32 : BitVec 32 := 21#32
  let v394 : BitVec 32 := Scalar.addi v36 c21_i32
  let v395 : BitVec 32 := Scalar.subi c511_i32_234 v394
  let v396 : Index := Scalar.indexCast v395
  let c0_235 : Index := 0#32
  ![v396.toNat, 0]
def k0_off86 (i : grid0.Coords) : Fin 2 → Nat :=
  let arg0 : BitVec 32 := BitVec.ofNat 32 (i 0).val
  let c32_i32 : BitVec 32 := 32#32
  let v36 : BitVec 32 := Scalar.muli arg0 c32_i32
  let c21_i32 : BitVec 32 := 21#32
  let v394 : BitVec 32 := Scalar.addi v36 c21_i32
  let v398 : Index := Scalar.indexCast v394
  let c0_236 : Index := 0#32
  ![v398.toNat, 0]
def k0_off87 (i : grid0.Coords) : Fin 2 → Nat :=
  let c0_237 : Index := 0#32
  let arg0 : BitVec 32 := BitVec.ofNat 32 (i 0).val
  let c32_i32 : BitVec 32 := 32#32
  let v36 : BitVec 32 := Scalar.muli arg0 c32_i32
  let c21_i32 : BitVec 32 := 21#32
  let v394 : BitVec 32 := Scalar.addi v36 c21_i32
  let v400 : Index := Scalar.indexCast v394
  ![0, v400.toNat]
def k0_off88 (v401 : BitVec 32) : Fin 2 → Nat :=
  let c512_i32_238 : BitVec 32 := 512#32
  let v402 : BitVec 32 := Scalar.muli v401 c512_i32_238
  let v403 : Index := Scalar.indexCast v402
  let c0_239 : Index := 0#32
  ![v403.toNat, 0]

def k0_chk22 (v401 : BitVec 32) : Prop :=
  (∀ a, (k0_off88 v401) a + S512x128.size a ≤ S1024x128.size a)
theorem k0_off88_inb : ∀ (v401 : BitVec 32) (k0_hw22 : k0_chk22 v401), ∀ a, (k0_off88 v401) a + S512x128.size a ≤ S1024x128.size a := fun v401 k0_hw22 => k0_hw22

def k0_off89 (i : grid0.Coords) : Fin 2 → Nat :=
  let c511_i32_243 : BitVec 32 := 511#32
  let arg0 : BitVec 32 := BitVec.ofNat 32 (i 0).val
  let c32_i32 : BitVec 32 := 32#32
  let v36 : BitVec 32 := Scalar.muli arg0 c32_i32
  let c22_i32 : BitVec 32 := 22#32
  let v411 : BitVec 32 := Scalar.addi v36 c22_i32
  let v412 : BitVec 32 := Scalar.subi c511_i32_243 v411
  let v413 : Index := Scalar.indexCast v412
  let c0_244 : Index := 0#32
  ![v413.toNat, 0]
def k0_off90 (i : grid0.Coords) : Fin 2 → Nat :=
  let arg0 : BitVec 32 := BitVec.ofNat 32 (i 0).val
  let c32_i32 : BitVec 32 := 32#32
  let v36 : BitVec 32 := Scalar.muli arg0 c32_i32
  let c22_i32 : BitVec 32 := 22#32
  let v411 : BitVec 32 := Scalar.addi v36 c22_i32
  let v415 : Index := Scalar.indexCast v411
  let c0_245 : Index := 0#32
  ![v415.toNat, 0]
def k0_off91 (i : grid0.Coords) : Fin 2 → Nat :=
  let c0_246 : Index := 0#32
  let arg0 : BitVec 32 := BitVec.ofNat 32 (i 0).val
  let c32_i32 : BitVec 32 := 32#32
  let v36 : BitVec 32 := Scalar.muli arg0 c32_i32
  let c22_i32 : BitVec 32 := 22#32
  let v411 : BitVec 32 := Scalar.addi v36 c22_i32
  let v417 : Index := Scalar.indexCast v411
  ![0, v417.toNat]
def k0_off92 (v418 : BitVec 32) : Fin 2 → Nat :=
  let c512_i32_247 : BitVec 32 := 512#32
  let v419 : BitVec 32 := Scalar.muli v418 c512_i32_247
  let v420 : Index := Scalar.indexCast v419
  let c0_248 : Index := 0#32
  ![v420.toNat, 0]

def k0_chk23 (v418 : BitVec 32) : Prop :=
  (∀ a, (k0_off92 v418) a + S512x128.size a ≤ S1024x128.size a)
theorem k0_off92_inb : ∀ (v418 : BitVec 32) (k0_hw23 : k0_chk23 v418), ∀ a, (k0_off92 v418) a + S512x128.size a ≤ S1024x128.size a := fun v418 k0_hw23 => k0_hw23

def k0_off93 (i : grid0.Coords) : Fin 2 → Nat :=
  let c511_i32_252 : BitVec 32 := 511#32
  let arg0 : BitVec 32 := BitVec.ofNat 32 (i 0).val
  let c32_i32 : BitVec 32 := 32#32
  let v36 : BitVec 32 := Scalar.muli arg0 c32_i32
  let c23_i32 : BitVec 32 := 23#32
  let v428 : BitVec 32 := Scalar.addi v36 c23_i32
  let v429 : BitVec 32 := Scalar.subi c511_i32_252 v428
  let v430 : Index := Scalar.indexCast v429
  let c0_253 : Index := 0#32
  ![v430.toNat, 0]
def k0_off94 (i : grid0.Coords) : Fin 2 → Nat :=
  let arg0 : BitVec 32 := BitVec.ofNat 32 (i 0).val
  let c32_i32 : BitVec 32 := 32#32
  let v36 : BitVec 32 := Scalar.muli arg0 c32_i32
  let c23_i32 : BitVec 32 := 23#32
  let v428 : BitVec 32 := Scalar.addi v36 c23_i32
  let v432 : Index := Scalar.indexCast v428
  let c0_254 : Index := 0#32
  ![v432.toNat, 0]
def k0_off95 (i : grid0.Coords) : Fin 2 → Nat :=
  let c0_255 : Index := 0#32
  let arg0 : BitVec 32 := BitVec.ofNat 32 (i 0).val
  let c32_i32 : BitVec 32 := 32#32
  let v36 : BitVec 32 := Scalar.muli arg0 c32_i32
  let c23_i32 : BitVec 32 := 23#32
  let v428 : BitVec 32 := Scalar.addi v36 c23_i32
  let v434 : Index := Scalar.indexCast v428
  ![0, v434.toNat]
def k0_off96 (v435 : BitVec 32) : Fin 2 → Nat :=
  let c512_i32_256 : BitVec 32 := 512#32
  let v436 : BitVec 32 := Scalar.muli v435 c512_i32_256
  let v437 : Index := Scalar.indexCast v436
  let c0_257 : Index := 0#32
  ![v437.toNat, 0]

def k0_chk24 (v435 : BitVec 32) : Prop :=
  (∀ a, (k0_off96 v435) a + S512x128.size a ≤ S1024x128.size a)
theorem k0_off96_inb : ∀ (v435 : BitVec 32) (k0_hw24 : k0_chk24 v435), ∀ a, (k0_off96 v435) a + S512x128.size a ≤ S1024x128.size a := fun v435 k0_hw24 => k0_hw24

def k0_off97 (i : grid0.Coords) : Fin 2 → Nat :=
  let c511_i32_261 : BitVec 32 := 511#32
  let arg0 : BitVec 32 := BitVec.ofNat 32 (i 0).val
  let c32_i32 : BitVec 32 := 32#32
  let v36 : BitVec 32 := Scalar.muli arg0 c32_i32
  let c24_i32 : BitVec 32 := 24#32
  let v445 : BitVec 32 := Scalar.addi v36 c24_i32
  let v446 : BitVec 32 := Scalar.subi c511_i32_261 v445
  let v447 : Index := Scalar.indexCast v446
  let c0_262 : Index := 0#32
  ![v447.toNat, 0]
def k0_off98 (i : grid0.Coords) : Fin 2 → Nat :=
  let arg0 : BitVec 32 := BitVec.ofNat 32 (i 0).val
  let c32_i32 : BitVec 32 := 32#32
  let v36 : BitVec 32 := Scalar.muli arg0 c32_i32
  let c24_i32 : BitVec 32 := 24#32
  let v445 : BitVec 32 := Scalar.addi v36 c24_i32
  let v449 : Index := Scalar.indexCast v445
  let c0_263 : Index := 0#32
  ![v449.toNat, 0]
def k0_off99 (i : grid0.Coords) : Fin 2 → Nat :=
  let c0_264 : Index := 0#32
  let arg0 : BitVec 32 := BitVec.ofNat 32 (i 0).val
  let c32_i32 : BitVec 32 := 32#32
  let v36 : BitVec 32 := Scalar.muli arg0 c32_i32
  let c24_i32 : BitVec 32 := 24#32
  let v445 : BitVec 32 := Scalar.addi v36 c24_i32
  let v451 : Index := Scalar.indexCast v445
  ![0, v451.toNat]
def k0_off100 (v452 : BitVec 32) : Fin 2 → Nat :=
  let c512_i32_265 : BitVec 32 := 512#32
  let v453 : BitVec 32 := Scalar.muli v452 c512_i32_265
  let v454 : Index := Scalar.indexCast v453
  let c0_266 : Index := 0#32
  ![v454.toNat, 0]

def k0_chk25 (v452 : BitVec 32) : Prop :=
  (∀ a, (k0_off100 v452) a + S512x128.size a ≤ S1024x128.size a)
theorem k0_off100_inb : ∀ (v452 : BitVec 32) (k0_hw25 : k0_chk25 v452), ∀ a, (k0_off100 v452) a + S512x128.size a ≤ S1024x128.size a := fun v452 k0_hw25 => k0_hw25

def k0_off101 (i : grid0.Coords) : Fin 2 → Nat :=
  let c511_i32_270 : BitVec 32 := 511#32
  let arg0 : BitVec 32 := BitVec.ofNat 32 (i 0).val
  let c32_i32 : BitVec 32 := 32#32
  let v36 : BitVec 32 := Scalar.muli arg0 c32_i32
  let c25_i32 : BitVec 32 := 25#32
  let v462 : BitVec 32 := Scalar.addi v36 c25_i32
  let v463 : BitVec 32 := Scalar.subi c511_i32_270 v462
  let v464 : Index := Scalar.indexCast v463
  let c0_271 : Index := 0#32
  ![v464.toNat, 0]
def k0_off102 (i : grid0.Coords) : Fin 2 → Nat :=
  let arg0 : BitVec 32 := BitVec.ofNat 32 (i 0).val
  let c32_i32 : BitVec 32 := 32#32
  let v36 : BitVec 32 := Scalar.muli arg0 c32_i32
  let c25_i32 : BitVec 32 := 25#32
  let v462 : BitVec 32 := Scalar.addi v36 c25_i32
  let v466 : Index := Scalar.indexCast v462
  let c0_272 : Index := 0#32
  ![v466.toNat, 0]
def k0_off103 (i : grid0.Coords) : Fin 2 → Nat :=
  let c0_273 : Index := 0#32
  let arg0 : BitVec 32 := BitVec.ofNat 32 (i 0).val
  let c32_i32 : BitVec 32 := 32#32
  let v36 : BitVec 32 := Scalar.muli arg0 c32_i32
  let c25_i32 : BitVec 32 := 25#32
  let v462 : BitVec 32 := Scalar.addi v36 c25_i32
  let v468 : Index := Scalar.indexCast v462
  ![0, v468.toNat]
def k0_off104 (v469 : BitVec 32) : Fin 2 → Nat :=
  let c512_i32_274 : BitVec 32 := 512#32
  let v470 : BitVec 32 := Scalar.muli v469 c512_i32_274
  let v471 : Index := Scalar.indexCast v470
  let c0_275 : Index := 0#32
  ![v471.toNat, 0]

def k0_chk26 (v469 : BitVec 32) : Prop :=
  (∀ a, (k0_off104 v469) a + S512x128.size a ≤ S1024x128.size a)
theorem k0_off104_inb : ∀ (v469 : BitVec 32) (k0_hw26 : k0_chk26 v469), ∀ a, (k0_off104 v469) a + S512x128.size a ≤ S1024x128.size a := fun v469 k0_hw26 => k0_hw26

def k0_off105 (i : grid0.Coords) : Fin 2 → Nat :=
  let c511_i32_279 : BitVec 32 := 511#32
  let arg0 : BitVec 32 := BitVec.ofNat 32 (i 0).val
  let c32_i32 : BitVec 32 := 32#32
  let v36 : BitVec 32 := Scalar.muli arg0 c32_i32
  let c26_i32 : BitVec 32 := 26#32
  let v479 : BitVec 32 := Scalar.addi v36 c26_i32
  let v480 : BitVec 32 := Scalar.subi c511_i32_279 v479
  let v481 : Index := Scalar.indexCast v480
  let c0_280 : Index := 0#32
  ![v481.toNat, 0]
def k0_off106 (i : grid0.Coords) : Fin 2 → Nat :=
  let arg0 : BitVec 32 := BitVec.ofNat 32 (i 0).val
  let c32_i32 : BitVec 32 := 32#32
  let v36 : BitVec 32 := Scalar.muli arg0 c32_i32
  let c26_i32 : BitVec 32 := 26#32
  let v479 : BitVec 32 := Scalar.addi v36 c26_i32
  let v483 : Index := Scalar.indexCast v479
  let c0_281 : Index := 0#32
  ![v483.toNat, 0]
def k0_off107 (i : grid0.Coords) : Fin 2 → Nat :=
  let c0_282 : Index := 0#32
  let arg0 : BitVec 32 := BitVec.ofNat 32 (i 0).val
  let c32_i32 : BitVec 32 := 32#32
  let v36 : BitVec 32 := Scalar.muli arg0 c32_i32
  let c26_i32 : BitVec 32 := 26#32
  let v479 : BitVec 32 := Scalar.addi v36 c26_i32
  let v485 : Index := Scalar.indexCast v479
  ![0, v485.toNat]
def k0_off108 (v486 : BitVec 32) : Fin 2 → Nat :=
  let c512_i32_283 : BitVec 32 := 512#32
  let v487 : BitVec 32 := Scalar.muli v486 c512_i32_283
  let v488 : Index := Scalar.indexCast v487
  let c0_284 : Index := 0#32
  ![v488.toNat, 0]

def k0_chk27 (v486 : BitVec 32) : Prop :=
  (∀ a, (k0_off108 v486) a + S512x128.size a ≤ S1024x128.size a)
theorem k0_off108_inb : ∀ (v486 : BitVec 32) (k0_hw27 : k0_chk27 v486), ∀ a, (k0_off108 v486) a + S512x128.size a ≤ S1024x128.size a := fun v486 k0_hw27 => k0_hw27

def k0_off109 (i : grid0.Coords) : Fin 2 → Nat :=
  let c511_i32_288 : BitVec 32 := 511#32
  let arg0 : BitVec 32 := BitVec.ofNat 32 (i 0).val
  let c32_i32 : BitVec 32 := 32#32
  let v36 : BitVec 32 := Scalar.muli arg0 c32_i32
  let c27_i32 : BitVec 32 := 27#32
  let v496 : BitVec 32 := Scalar.addi v36 c27_i32
  let v497 : BitVec 32 := Scalar.subi c511_i32_288 v496
  let v498 : Index := Scalar.indexCast v497
  let c0_289 : Index := 0#32
  ![v498.toNat, 0]
def k0_off110 (i : grid0.Coords) : Fin 2 → Nat :=
  let arg0 : BitVec 32 := BitVec.ofNat 32 (i 0).val
  let c32_i32 : BitVec 32 := 32#32
  let v36 : BitVec 32 := Scalar.muli arg0 c32_i32
  let c27_i32 : BitVec 32 := 27#32
  let v496 : BitVec 32 := Scalar.addi v36 c27_i32
  let v500 : Index := Scalar.indexCast v496
  let c0_290 : Index := 0#32
  ![v500.toNat, 0]
def k0_off111 (i : grid0.Coords) : Fin 2 → Nat :=
  let c0_291 : Index := 0#32
  let arg0 : BitVec 32 := BitVec.ofNat 32 (i 0).val
  let c32_i32 : BitVec 32 := 32#32
  let v36 : BitVec 32 := Scalar.muli arg0 c32_i32
  let c27_i32 : BitVec 32 := 27#32
  let v496 : BitVec 32 := Scalar.addi v36 c27_i32
  let v502 : Index := Scalar.indexCast v496
  ![0, v502.toNat]
def k0_off112 (v503 : BitVec 32) : Fin 2 → Nat :=
  let c512_i32_292 : BitVec 32 := 512#32
  let v504 : BitVec 32 := Scalar.muli v503 c512_i32_292
  let v505 : Index := Scalar.indexCast v504
  let c0_293 : Index := 0#32
  ![v505.toNat, 0]

def k0_chk28 (v503 : BitVec 32) : Prop :=
  (∀ a, (k0_off112 v503) a + S512x128.size a ≤ S1024x128.size a)
theorem k0_off112_inb : ∀ (v503 : BitVec 32) (k0_hw28 : k0_chk28 v503), ∀ a, (k0_off112 v503) a + S512x128.size a ≤ S1024x128.size a := fun v503 k0_hw28 => k0_hw28

def k0_off113 (i : grid0.Coords) : Fin 2 → Nat :=
  let c511_i32_297 : BitVec 32 := 511#32
  let arg0 : BitVec 32 := BitVec.ofNat 32 (i 0).val
  let c32_i32 : BitVec 32 := 32#32
  let v36 : BitVec 32 := Scalar.muli arg0 c32_i32
  let c28_i32 : BitVec 32 := 28#32
  let v513 : BitVec 32 := Scalar.addi v36 c28_i32
  let v514 : BitVec 32 := Scalar.subi c511_i32_297 v513
  let v515 : Index := Scalar.indexCast v514
  let c0_298 : Index := 0#32
  ![v515.toNat, 0]
def k0_off114 (i : grid0.Coords) : Fin 2 → Nat :=
  let arg0 : BitVec 32 := BitVec.ofNat 32 (i 0).val
  let c32_i32 : BitVec 32 := 32#32
  let v36 : BitVec 32 := Scalar.muli arg0 c32_i32
  let c28_i32 : BitVec 32 := 28#32
  let v513 : BitVec 32 := Scalar.addi v36 c28_i32
  let v517 : Index := Scalar.indexCast v513
  let c0_299 : Index := 0#32
  ![v517.toNat, 0]
def k0_off115 (i : grid0.Coords) : Fin 2 → Nat :=
  let c0_300 : Index := 0#32
  let arg0 : BitVec 32 := BitVec.ofNat 32 (i 0).val
  let c32_i32 : BitVec 32 := 32#32
  let v36 : BitVec 32 := Scalar.muli arg0 c32_i32
  let c28_i32 : BitVec 32 := 28#32
  let v513 : BitVec 32 := Scalar.addi v36 c28_i32
  let v519 : Index := Scalar.indexCast v513
  ![0, v519.toNat]
def k0_off116 (v520 : BitVec 32) : Fin 2 → Nat :=
  let c512_i32_301 : BitVec 32 := 512#32
  let v521 : BitVec 32 := Scalar.muli v520 c512_i32_301
  let v522 : Index := Scalar.indexCast v521
  let c0_302 : Index := 0#32
  ![v522.toNat, 0]

def k0_chk29 (v520 : BitVec 32) : Prop :=
  (∀ a, (k0_off116 v520) a + S512x128.size a ≤ S1024x128.size a)
theorem k0_off116_inb : ∀ (v520 : BitVec 32) (k0_hw29 : k0_chk29 v520), ∀ a, (k0_off116 v520) a + S512x128.size a ≤ S1024x128.size a := fun v520 k0_hw29 => k0_hw29

def k0_off117 (i : grid0.Coords) : Fin 2 → Nat :=
  let c511_i32_306 : BitVec 32 := 511#32
  let arg0 : BitVec 32 := BitVec.ofNat 32 (i 0).val
  let c32_i32 : BitVec 32 := 32#32
  let v36 : BitVec 32 := Scalar.muli arg0 c32_i32
  let c29_i32 : BitVec 32 := 29#32
  let v530 : BitVec 32 := Scalar.addi v36 c29_i32
  let v531 : BitVec 32 := Scalar.subi c511_i32_306 v530
  let v532 : Index := Scalar.indexCast v531
  let c0_307 : Index := 0#32
  ![v532.toNat, 0]
def k0_off118 (i : grid0.Coords) : Fin 2 → Nat :=
  let arg0 : BitVec 32 := BitVec.ofNat 32 (i 0).val
  let c32_i32 : BitVec 32 := 32#32
  let v36 : BitVec 32 := Scalar.muli arg0 c32_i32
  let c29_i32 : BitVec 32 := 29#32
  let v530 : BitVec 32 := Scalar.addi v36 c29_i32
  let v534 : Index := Scalar.indexCast v530
  let c0_308 : Index := 0#32
  ![v534.toNat, 0]
def k0_off119 (i : grid0.Coords) : Fin 2 → Nat :=
  let c0_309 : Index := 0#32
  let arg0 : BitVec 32 := BitVec.ofNat 32 (i 0).val
  let c32_i32 : BitVec 32 := 32#32
  let v36 : BitVec 32 := Scalar.muli arg0 c32_i32
  let c29_i32 : BitVec 32 := 29#32
  let v530 : BitVec 32 := Scalar.addi v36 c29_i32
  let v536 : Index := Scalar.indexCast v530
  ![0, v536.toNat]
def k0_off120 (v537 : BitVec 32) : Fin 2 → Nat :=
  let c512_i32_310 : BitVec 32 := 512#32
  let v538 : BitVec 32 := Scalar.muli v537 c512_i32_310
  let v539 : Index := Scalar.indexCast v538
  let c0_311 : Index := 0#32
  ![v539.toNat, 0]

def k0_chk30 (v537 : BitVec 32) : Prop :=
  (∀ a, (k0_off120 v537) a + S512x128.size a ≤ S1024x128.size a)
theorem k0_off120_inb : ∀ (v537 : BitVec 32) (k0_hw30 : k0_chk30 v537), ∀ a, (k0_off120 v537) a + S512x128.size a ≤ S1024x128.size a := fun v537 k0_hw30 => k0_hw30

def k0_off121 (i : grid0.Coords) : Fin 2 → Nat :=
  let c511_i32_315 : BitVec 32 := 511#32
  let arg0 : BitVec 32 := BitVec.ofNat 32 (i 0).val
  let c32_i32 : BitVec 32 := 32#32
  let v36 : BitVec 32 := Scalar.muli arg0 c32_i32
  let c30_i32 : BitVec 32 := 30#32
  let v547 : BitVec 32 := Scalar.addi v36 c30_i32
  let v548 : BitVec 32 := Scalar.subi c511_i32_315 v547
  let v549 : Index := Scalar.indexCast v548
  let c0_316 : Index := 0#32
  ![v549.toNat, 0]
def k0_off122 (i : grid0.Coords) : Fin 2 → Nat :=
  let arg0 : BitVec 32 := BitVec.ofNat 32 (i 0).val
  let c32_i32 : BitVec 32 := 32#32
  let v36 : BitVec 32 := Scalar.muli arg0 c32_i32
  let c30_i32 : BitVec 32 := 30#32
  let v547 : BitVec 32 := Scalar.addi v36 c30_i32
  let v551 : Index := Scalar.indexCast v547
  let c0_317 : Index := 0#32
  ![v551.toNat, 0]
def k0_off123 (i : grid0.Coords) : Fin 2 → Nat :=
  let c0_318 : Index := 0#32
  let arg0 : BitVec 32 := BitVec.ofNat 32 (i 0).val
  let c32_i32 : BitVec 32 := 32#32
  let v36 : BitVec 32 := Scalar.muli arg0 c32_i32
  let c30_i32 : BitVec 32 := 30#32
  let v547 : BitVec 32 := Scalar.addi v36 c30_i32
  let v553 : Index := Scalar.indexCast v547
  ![0, v553.toNat]
def k0_off124 (v554 : BitVec 32) : Fin 2 → Nat :=
  let c512_i32_319 : BitVec 32 := 512#32
  let v555 : BitVec 32 := Scalar.muli v554 c512_i32_319
  let v556 : Index := Scalar.indexCast v555
  let c0_320 : Index := 0#32
  ![v556.toNat, 0]

def k0_chk31 (v554 : BitVec 32) : Prop :=
  (∀ a, (k0_off124 v554) a + S512x128.size a ≤ S1024x128.size a)
theorem k0_off124_inb : ∀ (v554 : BitVec 32) (k0_hw31 : k0_chk31 v554), ∀ a, (k0_off124 v554) a + S512x128.size a ≤ S1024x128.size a := fun v554 k0_hw31 => k0_hw31

def k0_off125 (i : grid0.Coords) : Fin 2 → Nat :=
  let c511_i32_324 : BitVec 32 := 511#32
  let arg0 : BitVec 32 := BitVec.ofNat 32 (i 0).val
  let c32_i32 : BitVec 32 := 32#32
  let v36 : BitVec 32 := Scalar.muli arg0 c32_i32
  let c31_i32 : BitVec 32 := 31#32
  let v564 : BitVec 32 := Scalar.addi v36 c31_i32
  let v565 : BitVec 32 := Scalar.subi c511_i32_324 v564
  let v566 : Index := Scalar.indexCast v565
  let c0_325 : Index := 0#32
  ![v566.toNat, 0]
def k0_off126 (i : grid0.Coords) : Fin 2 → Nat :=
  let arg0 : BitVec 32 := BitVec.ofNat 32 (i 0).val
  let c32_i32 : BitVec 32 := 32#32
  let v36 : BitVec 32 := Scalar.muli arg0 c32_i32
  let c31_i32 : BitVec 32 := 31#32
  let v564 : BitVec 32 := Scalar.addi v36 c31_i32
  let v568 : Index := Scalar.indexCast v564
  let c0_326 : Index := 0#32
  ![v568.toNat, 0]
def k0_off127 (i : grid0.Coords) : Fin 2 → Nat :=
  let c0_327 : Index := 0#32
  let arg0 : BitVec 32 := BitVec.ofNat 32 (i 0).val
  let c32_i32 : BitVec 32 := 32#32
  let v36 : BitVec 32 := Scalar.muli arg0 c32_i32
  let c31_i32 : BitVec 32 := 31#32
  let v564 : BitVec 32 := Scalar.addi v36 c31_i32
  let v570 : Index := Scalar.indexCast v564
  ![0, v570.toNat]
def k0_off128 (v571 : BitVec 32) : Fin 2 → Nat :=
  let c512_i32_328 : BitVec 32 := 512#32
  let v572 : BitVec 32 := Scalar.muli v571 c512_i32_328
  let v573 : Index := Scalar.indexCast v572
  let c0_329 : Index := 0#32
  ![v573.toNat, 0]

def k0_chk32 (v571 : BitVec 32) : Prop :=
  (∀ a, (k0_off128 v571) a + S512x128.size a ≤ S1024x128.size a)
theorem k0_off128_inb : ∀ (v571 : BitVec 32) (k0_hw32 : k0_chk32 v571), ∀ a, (k0_off128 v571) a + S512x128.size a ≤ S1024x128.size a := fun v571 k0_hw32 => k0_hw32

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x4x512x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x512 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S22x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S22x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S22x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S22x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S65x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S5x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x4x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x32x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x512x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S1x64x512x48 : Shape := ⟨4, ![1, 64, 512, 48]⟩
abbrev S1x512 : Shape := ⟨2, ![1, 512]⟩
abbrev S48x256 : Shape := ⟨2, ![48, 256]⟩
abbrev S256 : Shape := ⟨1, ![256]⟩
abbrev S22x256 : Shape := ⟨2, ![22, 256]⟩
abbrev S22x128 : Shape := ⟨2, ![22, 128]⟩
abbrev S2x128 : Shape := ⟨2, ![2, 128]⟩
abbrev S22x32 : Shape := ⟨2, ![22, 32]⟩
abbrev S2x32 : Shape := ⟨2, ![2, 32]⟩
abbrev S65x128 : Shape := ⟨2, ![65, 128]⟩
abbrev S5x128 : Shape := ⟨2, ![5, 128]⟩
abbrev S1x64x512x256 : Shape := ⟨4, ![1, 64, 512, 256]⟩
abbrev S1x1x1x256 : Shape := ⟨4, ![1, 1, 1, 256]⟩
abbrev S_ : Shape := ⟨0, ![]⟩
abbrev S1x512x1 : Shape := ⟨3, ![1, 512, 1]⟩
abbrev S1 : Shape := ⟨1, ![1]⟩
abbrev S1x1x1 : Shape := ⟨3, ![1, 1, 1]⟩
abbrev S1x512x256 : Shape := ⟨3, ![1, 512, 256]⟩
abbrev S1x1x512x256 : Shape := ⟨4, ![1, 1, 512, 256]⟩
abbrev S1x512x128 : Shape := ⟨3, ![1, 512, 128]⟩
abbrev S1x1x512x128 : Shape := ⟨4, ![1, 1, 512, 128]⟩
abbrev S1x512x1x128 : Shape := ⟨4, ![1, 512, 1, 128]⟩
abbrev S1x512x512x128 : Shape := ⟨4, ![1, 512, 512, 128]⟩
abbrev S1x1x512 : Shape := ⟨3, ![1, 1, 512]⟩
abbrev S1x512x512 : Shape := ⟨3, ![1, 512, 512]⟩
abbrev S64 : Shape := ⟨1, ![64]⟩
abbrev S1x512x512x1 : Shape := ⟨4, ![1, 512, 512, 1]⟩
abbrev S1x1x1x64 : Shape := ⟨4, ![1, 1, 1, 64]⟩
abbrev S1x512x512x64 : Shape := ⟨4, ![1, 512, 512, 64]⟩
abbrev S1x1x1x1 : Shape := ⟨4, ![1, 1, 1, 1]⟩
abbrev S4 : Shape := ⟨1, ![4]⟩
abbrev S1x1x1x4 : Shape := ⟨4, ![1, 1, 1, 4]⟩
abbrev S1x512x512x4 : Shape := ⟨4, ![1, 512, 512, 4]⟩
abbrev S1x512x32 : Shape := ⟨3, ![1, 512, 32]⟩

abbrev nBuf : Space → Nat
  | .hbm => 276
  | .vmem => 0
  | .smem => 0
  | _ => 0

abbrev hbmTy0_0 (i : Nat) : BufTy := match i % 128 with
  | 0 => ⟨S1x64x512x48, .f32⟩
  | 1 => ⟨S1x512, .i32⟩
  | 2 => ⟨S1x512, .i32⟩
  | 3 => ⟨S1x512, .i32⟩
  | 4 => ⟨S1x512, .i32⟩
  | 5 => ⟨S48x256, .f32⟩
  | 6 => ⟨S256, .f32⟩
  | 7 => ⟨S22x256, .f32⟩
  | 8 => ⟨S22x128, .f32⟩
  | 9 => ⟨S22x128, .f32⟩
  | 10 => ⟨S2x128, .f32⟩
  | 11 => ⟨S2x128, .f32⟩
  | 12 => ⟨S22x32, .f32⟩
  | 13 => ⟨S2x32, .f32⟩
  | 14 => ⟨S65x128, .f32⟩
  | 15 => ⟨S5x128, .f32⟩
  | 16 => ⟨S1x64x512x256, .f32⟩
  | 17 => ⟨S1x1x1x256, .f32⟩
  | 18 => ⟨S1x64x512x256, .f32⟩
  | 19 => ⟨S1x64x512x256, .f32⟩
  | 20 => ⟨S_, .i32⟩
  | 21 => ⟨S1x512, .i32⟩
  | 22 => ⟨S1x512, .i1⟩
  | 23 => ⟨S_, .i32⟩
  | 24 => ⟨S1x512, .i32⟩
  | 25 => ⟨S1x512, .i32⟩
  | 26 => ⟨S1x512, .i32⟩
  | 27 => ⟨S1x512x1, .i32⟩
  | 28 => ⟨S1, .i32⟩
  | 29 => ⟨S_, .i32⟩
  | 30 => ⟨S1x512x1, .i32⟩
  | 31 => ⟨S1x512x1, .i1⟩
  | 32 => ⟨S1x1x1, .i32⟩
  | 33 => ⟨S1x512x1, .i32⟩
  | 34 => ⟨S1x512x1, .i1⟩
  | 35 => ⟨S1x512x1, .i1⟩
  | 36 => ⟨S_, .i1⟩
  | 37 => ⟨S1x512, .i1⟩
  | 38 => ⟨S1x512x256, .f32⟩
  | 39 => ⟨S1x512x256, .i1⟩
  | 40 => ⟨S_, .f32⟩
  | 41 => ⟨S1x512x256, .f32⟩
  | 42 => ⟨S1x512x256, .f32⟩
  | 43 => ⟨S1x1x512x256, .f32⟩
  | 44 => ⟨S1x64x512x256, .f32⟩
  | 45 => ⟨S1x64x512x256, .f32⟩
  | 46 => ⟨S_, .i32⟩
  | 47 => ⟨S1x512, .i32⟩
  | 48 => ⟨S1x512, .i1⟩
  | 49 => ⟨S_, .i32⟩
  | 50 => ⟨S1x512, .i32⟩
  | 51 => ⟨S1x512, .i32⟩
  | 52 => ⟨S1x512, .i32⟩
  | 53 => ⟨S1x512x1, .i32⟩
  | 54 => ⟨S1, .i32⟩
  | 55 => ⟨S_, .i32⟩
  | 56 => ⟨S1x512x1, .i32⟩
  | 57 => ⟨S1x512x1, .i1⟩
  | 58 => ⟨S1x1x1, .i32⟩
  | 59 => ⟨S1x512x1, .i32⟩
  | 60 => ⟨S1x512x1, .i1⟩
  | 61 => ⟨S1x512x1, .i1⟩
  | 62 => ⟨S_, .i1⟩
  | 63 => ⟨S1x512, .i1⟩
  | 64 => ⟨S1x512x128, .f32⟩
  | 65 => ⟨S1x512x128, .i1⟩
  | 66 => ⟨S_, .f32⟩
  | 67 => ⟨S1x512x128, .f32⟩
  | 68 => ⟨S1x512x128, .f32⟩
  | 69 => ⟨S1x1x512x128, .f32⟩
  | 70 => ⟨S_, .i32⟩
  | 71 => ⟨S1x512, .i32⟩
  | 72 => ⟨S1x512, .i1⟩
  | 73 => ⟨S_, .i32⟩
  | 74 => ⟨S1x512, .i32⟩
  | 75 => ⟨S1x512, .i32⟩
  | 76 => ⟨S1x512, .i32⟩
  | 77 => ⟨S1x512x1, .i32⟩
  | 78 => ⟨S1, .i32⟩
  | 79 => ⟨S_, .i32⟩
  | 80 => ⟨S1x512x1, .i32⟩
  | 81 => ⟨S1x512x1, .i1⟩
  | 82 => ⟨S1x1x1, .i32⟩
  | 83 => ⟨S1x512x1, .i32⟩
  | 84 => ⟨S1x512x1, .i1⟩
  | 85 => ⟨S1x512x1, .i1⟩
  | 86 => ⟨S_, .i1⟩
  | 87 => ⟨S1x512, .i1⟩
  | 88 => ⟨S1x512x128, .f32⟩
  | 89 => ⟨S1x512x128, .i1⟩
  | 90 => ⟨S_, .f32⟩
  | 91 => ⟨S1x512x128, .f32⟩
  | 92 => ⟨S1x512x128, .f32⟩
  | 93 => ⟨S1x1x512x128, .f32⟩
  | 94 => ⟨S1x1x512x128, .f32⟩
  | 95 => ⟨S_, .i32⟩
  | 96 => ⟨S1x512, .i32⟩
  | 97 => ⟨S1x512, .i1⟩
  | 98 => ⟨S_, .i32⟩
  | 99 => ⟨S1x512, .i32⟩
  | 100 => ⟨S1x512, .i32⟩
  | 101 => ⟨S1x512, .i32⟩
  | 102 => ⟨S1x512x1, .i32⟩
  | 103 => ⟨S1, .i32⟩
  | 104 => ⟨S_, .i32⟩
  | 105 => ⟨S1x512x1, .i32⟩
  | 106 => ⟨S1x512x1, .i1⟩
  | 107 => ⟨S1x1x1, .i32⟩
  | 108 => ⟨S1x512x1, .i32⟩
  | 109 => ⟨S1x512x1, .i1⟩
  | 110 => ⟨S1x512x1, .i1⟩
  | 111 => ⟨S_, .i1⟩
  | 112 => ⟨S1x512, .i1⟩
  | 113 => ⟨S1x512x128, .f32⟩
  | 114 => ⟨S1x512x128, .i1⟩
  | 115 => ⟨S_, .f32⟩
  | 116 => ⟨S1x512x128, .f32⟩
  | 117 => ⟨S1x512x128, .f32⟩
  | 118 => ⟨S1x512x1x128, .f32⟩
  | 119 => ⟨S_, .i32⟩
  | 120 => ⟨S1x512, .i32⟩
  | 121 => ⟨S1x512, .i1⟩
  | 122 => ⟨S_, .i32⟩
  | 123 => ⟨S1x512, .i32⟩
  | 124 => ⟨S1x512, .i32⟩
  | 125 => ⟨S1x512, .i32⟩
  | 126 => ⟨S1x512x1, .i32⟩
  | 127 => ⟨S1, .i32⟩
  | _ => ⟨S1x64x512x48, .f32⟩

abbrev hbmTy0_1 (i : Nat) : BufTy := match i % 128 with
  | 0 => ⟨S_, .i32⟩
  | 1 => ⟨S1x512x1, .i32⟩
  | 2 => ⟨S1x512x1, .i1⟩
  | 3 => ⟨S1x1x1, .i32⟩
  | 4 => ⟨S1x512x1, .i32⟩
  | 5 => ⟨S1x512x1, .i1⟩
  | 6 => ⟨S1x512x1, .i1⟩
  | 7 => ⟨S_, .i1⟩
  | 8 => ⟨S1x512, .i1⟩
  | 9 => ⟨S1x512x128, .f32⟩
  | 10 => ⟨S1x512x128, .i1⟩
  | 11 => ⟨S_, .f32⟩
  | 12 => ⟨S1x512x128, .f32⟩
  | 13 => ⟨S1x512x128, .f32⟩
  | 14 => ⟨S1x512x1x128, .f32⟩
  | 15 => ⟨S1x512x1x128, .f32⟩
  | 16 => ⟨S1x512x512x128, .f32⟩
  | 17 => ⟨S1x512x512x128, .f32⟩
  | 18 => ⟨S1x512x512x128, .f32⟩
  | 19 => ⟨S1x1x512, .i32⟩
  | 20 => ⟨S1x512x1, .i32⟩
  | 21 => ⟨S1x512x512, .i32⟩
  | 22 => ⟨S1x512x512, .i32⟩
  | 23 => ⟨S1x512x512, .i32⟩
  | 24 => ⟨S64, .i32⟩
  | 25 => ⟨S_, .i32⟩
  | 26 => ⟨S64, .i32⟩
  | 27 => ⟨S64, .i32⟩
  | 28 => ⟨S1x512x512x1, .i32⟩
  | 29 => ⟨S1x1x1x64, .i32⟩
  | 30 => ⟨S1x512x512x64, .i32⟩
  | 31 => ⟨S1x512x512x64, .i32⟩
  | 32 => ⟨S1x512x512x64, .i1⟩
  | 33 => ⟨S1x512x512x64, .i32⟩
  | 34 => ⟨S_, .i32⟩
  | 35 => ⟨S1x512x512, .i32⟩
  | 36 => ⟨S_, .i32⟩
  | 37 => ⟨S1x512x512, .i32⟩
  | 38 => ⟨S1x512x512, .i1⟩
  | 39 => ⟨S_, .i32⟩
  | 40 => ⟨S1x512x512, .i32⟩
  | 41 => ⟨S1x512x512, .i32⟩
  | 42 => ⟨S1x512x512, .i32⟩
  | 43 => ⟨S1x512x512x1, .i32⟩
  | 44 => ⟨S1, .i32⟩
  | 45 => ⟨S_, .i32⟩
  | 46 => ⟨S1x512x512x1, .i32⟩
  | 47 => ⟨S1x512x512x1, .i1⟩
  | 48 => ⟨S1x1x1x1, .i32⟩
  | 49 => ⟨S1x512x512x1, .i32⟩
  | 50 => ⟨S1x512x512x1, .i1⟩
  | 51 => ⟨S1x512x512x1, .i1⟩
  | 52 => ⟨S_, .i1⟩
  | 53 => ⟨S1x512x512, .i1⟩
  | 54 => ⟨S1x512x512x128, .f32⟩
  | 55 => ⟨S1x512x512x128, .i1⟩
  | 56 => ⟨S_, .f32⟩
  | 57 => ⟨S1x512x512x128, .f32⟩
  | 58 => ⟨S1x512x512x128, .f32⟩
  | 59 => ⟨S1x1x512, .i32⟩
  | 60 => ⟨S1x512x1, .i32⟩
  | 61 => ⟨S1x512x512, .i32⟩
  | 62 => ⟨S1x512x512, .i32⟩
  | 63 => ⟨S1x512x512, .i32⟩
  | 64 => ⟨S4, .i32⟩
  | 65 => ⟨S_, .i32⟩
  | 66 => ⟨S4, .i32⟩
  | 67 => ⟨S4, .i32⟩
  | 68 => ⟨S1x512x512x1, .i32⟩
  | 69 => ⟨S1x1x1x4, .i32⟩
  | 70 => ⟨S1x512x512x4, .i32⟩
  | 71 => ⟨S1x512x512x4, .i32⟩
  | 72 => ⟨S1x512x512x4, .i1⟩
  | 73 => ⟨S1x512x512x4, .i32⟩
  | 74 => ⟨S_, .i32⟩
  | 75 => ⟨S1x512x512, .i32⟩
  | 76 => ⟨S_, .i32⟩
  | 77 => ⟨S1x512x512, .i32⟩
  | 78 => ⟨S1x512x512, .i1⟩
  | 79 => ⟨S_, .i32⟩
  | 80 => ⟨S1x512x512, .i32⟩
  | 81 => ⟨S1x512x512, .i32⟩
  | 82 => ⟨S1x512x512, .i32⟩
  | 83 => ⟨S1x512x512x1, .i32⟩
  | 84 => ⟨S1, .i32⟩
  | 85 => ⟨S_, .i32⟩
  | 86 => ⟨S1x512x512x1, .i32⟩
  | 87 => ⟨S1x512x512x1, .i1⟩
  | 88 => ⟨S1x1x1x1, .i32⟩
  | 89 => ⟨S1x512x512x1, .i32⟩
  | 90 => ⟨S1x512x512x1, .i1⟩
  | 91 => ⟨S1x512x512x1, .i1⟩
  | 92 => ⟨S_, .i1⟩
  | 93 => ⟨S1x512x512, .i1⟩
  | 94 => ⟨S1x512x512x128, .f32⟩
  | 95 => ⟨S1x512x512x128, .i1⟩
  | 96 => ⟨S_, .f32⟩
  | 97 => ⟨S1x512x512x128, .f32⟩
  | 98 => ⟨S1x512x512x128, .f32⟩
  | 99 => ⟨S1x512x512x128, .f32⟩
  | 100 => ⟨S1x512x512x128, .f32⟩
  | 101 => ⟨S_, .i32⟩
  | 102 => ⟨S1x512, .i32⟩
  | 103 => ⟨S1x512, .i1⟩
  | 104 => ⟨S_, .i32⟩
  | 105 => ⟨S1x512, .i32⟩
  | 106 => ⟨S1x512, .i32⟩
  | 107 => ⟨S1x512, .i32⟩
  | 108 => ⟨S1x512x1, .i32⟩
  | 109 => ⟨S1, .i32⟩
  | 110 => ⟨S_, .i32⟩
  | 111 => ⟨S1x512x1, .i32⟩
  | 112 => ⟨S1x512x1, .i1⟩
  | 113 => ⟨S1x1x1, .i32⟩
  | 114 => ⟨S1x512x1, .i32⟩
  | 115 => ⟨S1x512x1, .i1⟩
  | 116 => ⟨S1x512x1, .i1⟩
  | 117 => ⟨S_, .i1⟩
  | 118 => ⟨S1x512, .i1⟩
  | 119 => ⟨S1x512x32, .f32⟩
  | 120 => ⟨S1x512x32, .i1⟩
  | 121 => ⟨S_, .f32⟩
  | 122 => ⟨S1x512x32, .f32⟩
  | 123 => ⟨S1x512x32, .f32⟩
  | 124 => ⟨S_, .i32⟩
  | 125 => ⟨S1x512, .i32⟩
  | 126 => ⟨S1x512, .i1⟩
  | 127 => ⟨S_, .i32⟩
  | _ => ⟨S1x64x512x48, .f32⟩

abbrev hbmTy0_2 (i : Nat) : BufTy := match i % 128 with
  | 0 => ⟨S1x512, .i32⟩
  | 1 => ⟨S1x512, .i32⟩
  | 2 => ⟨S1x512, .i32⟩
  | 3 => ⟨S1x512x1, .i32⟩
  | 4 => ⟨S1, .i32⟩
  | 5 => ⟨S_, .i32⟩
  | 6 => ⟨S1x512x1, .i32⟩
  | 7 => ⟨S1x512x1, .i1⟩
  | 8 => ⟨S1x1x1, .i32⟩
  | 9 => ⟨S1x512x1, .i32⟩
  | 10 => ⟨S1x512x1, .i1⟩
  | 11 => ⟨S1x512x1, .i1⟩
  | 12 => ⟨S_, .i1⟩
  | 13 => ⟨S1x512, .i1⟩
  | 14 => ⟨S1x512x32, .f32⟩
  | 15 => ⟨S1x512x32, .i1⟩
  | 16 => ⟨S_, .f32⟩
  | 17 => ⟨S1x512x32, .f32⟩
  | 18 => ⟨S1x512x32, .f32⟩
  | 19 => ⟨S1x512x32, .f32⟩
  | _ => ⟨S1x64x512x48, .f32⟩

abbrev hbmTy (i : Nat) : BufTy := match i / 128 with
  | 0 => hbmTy0_0 i
  | 1 => hbmTy0_1 i
  | 2 => hbmTy0_2 i
  | _ => ⟨S1x64x512x48, .f32⟩

abbrev bufTy : (tb : Table) → Fin (tcTables nBuf tb) → BufTy
  | .hbm, ⟨i, _⟩ => hbmTy i
  | _, _ => ⟨S1x64x512x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v8 : Ref sig .tc := ⟨.hbm, 68, rfl⟩
abbrev main_v9 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v10 : Ref sig .tc := ⟨.hbm, 92, rfl⟩
abbrev main_v11 : Ref sig .tc := ⟨.hbm, 93, rfl⟩
abbrev main_v12 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_call3_cst : Ref sig .tc := ⟨.hbm, 115, rfl⟩
abbrev main_call3_v15 : Ref sig .tc := ⟨.hbm, 116, rfl⟩
abbrev main_v13 : Ref sig .tc := ⟨.hbm, 117, rfl⟩
abbrev main_v14 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_v14 : Ref sig .tc := ⟨.hbm, 138, rfl⟩
abbrev main_call4_cst : Ref sig .tc := ⟨.hbm, 139, rfl⟩
abbrev main_call4_v15 : Ref sig .tc := ⟨.hbm, 140, rfl⟩
abbrev main_v15 : Ref sig .tc := ⟨.hbm, 141, rfl⟩
abbrev main_v16 : Ref sig .tc := ⟨.hbm, 142, rfl⟩
abbrev main_v17 : Ref sig .tc := ⟨.hbm, 143, rfl⟩
abbrev main_v18 : Ref sig .tc := ⟨.hbm, 144, rfl⟩
abbrev main_v19 : Ref sig .tc := ⟨.hbm, 145, rfl⟩
abbrev main_v20 : Ref sig .tc := ⟨.hbm, 146, rfl⟩
abbrev main_v21 : Ref sig .tc := ⟨.hbm, 147, rfl⟩
abbrev main_v22 : Ref sig .tc := ⟨.hbm, 148, rfl⟩
abbrev main_v23 : Ref sig .tc := ⟨.hbm, 149, rfl⟩
abbrev main_v24 : Ref sig .tc := ⟨.hbm, 150, rfl⟩
abbrev main_v25 : Ref sig .tc := ⟨.hbm, 151, rfl⟩
abbrev main_v26 : Ref sig .tc := ⟨.hbm, 152, rfl⟩
abbrev main_c : Ref sig .tc := ⟨.hbm, 153, rfl⟩
abbrev main_v27 : Ref sig .tc := ⟨.hbm, 154, rfl⟩
abbrev main_v28 : Ref sig .tc := ⟨.hbm, 155, rfl⟩
abbrev main_v29 : Ref sig .tc := ⟨.hbm, 156, rfl⟩
abbrev main_v30 : Ref sig .tc := ⟨.hbm, 157, rfl⟩
abbrev main_v31 : Ref sig .tc := ⟨.hbm, 158, rfl⟩
abbrev main_v32 : Ref sig .tc := ⟨.hbm, 159, rfl⟩
abbrev main_v33 : Ref sig .tc := ⟨.hbm, 160, rfl⟩
abbrev main_v34 : Ref sig .tc := ⟨.hbm, 161, rfl⟩
abbrev main_c_0 : Ref sig .tc := ⟨.hbm, 162, rfl⟩
abbrev main_v35 : Ref sig .tc := ⟨.hbm, 163, rfl⟩
abbrev main_call5_c : Ref sig .tc := ⟨.hbm, 164, rfl⟩
abbrev main_call5_v0 : Ref sig .tc := ⟨.hbm, 165, rfl⟩
abbrev main_call5_v1 : Ref sig .tc := ⟨.hbm, 166, rfl⟩
abbrev main_call5_c_0 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_v5 : Ref sig .tc := ⟨.hbm, 171, rfl⟩
abbrev main_call5_c_1 : Ref sig .tc := ⟨.hbm, 172, rfl⟩
abbrev main_call5_c_2 : Ref sig .tc := ⟨.hbm, 173, rfl⟩
abbrev main_call5_v6 : Ref sig .tc := ⟨.hbm, 174, rfl⟩
abbrev main_call5_v7 : Ref sig .tc := ⟨.hbm, 175, rfl⟩
abbrev main_call5_v8 : Ref sig .tc := ⟨.hbm, 176, rfl⟩
abbrev main_call5_v9 : Ref sig .tc := ⟨.hbm, 177, rfl⟩
abbrev main_call5_v10 : Ref sig .tc := ⟨.hbm, 178, rfl⟩
abbrev main_call5_v11 : Ref sig .tc := ⟨.hbm, 179, rfl⟩
abbrev main_call5_c_3 : Ref sig .tc := ⟨.hbm, 180, rfl⟩
abbrev main_call5_v12 : Ref sig .tc := ⟨.hbm, 181, rfl⟩
abbrev main_call5_v13 : Ref sig .tc := ⟨.hbm, 182, rfl⟩
abbrev main_call5_v14 : Ref sig .tc := ⟨.hbm, 183, rfl⟩
abbrev main_call5_cst : Ref sig .tc := ⟨.hbm, 184, rfl⟩
abbrev main_call5_v15 : Ref sig .tc := ⟨.hbm, 185, rfl⟩
abbrev main_v36 : Ref sig .tc := ⟨.hbm, 186, rfl⟩
abbrev main_v37 : Ref sig .tc := ⟨.hbm, 187, rfl⟩
abbrev main_v38 : Ref sig .tc := ⟨.hbm, 188, rfl⟩
abbrev main_v39 : Ref sig .tc := ⟨.hbm, 189, rfl⟩
abbrev main_v40 : Ref sig .tc := ⟨.hbm, 190, rfl⟩
abbrev main_v41 : Ref sig .tc := ⟨.hbm, 191, rfl⟩
abbrev main_v42 : Ref sig .tc := ⟨.hbm, 192, rfl⟩
abbrev main_c_1 : Ref sig .tc := ⟨.hbm, 193, rfl⟩
abbrev main_v43 : Ref sig .tc := ⟨.hbm, 194, rfl⟩
abbrev main_v44 : Ref sig .tc := ⟨.hbm, 195, rfl⟩
abbrev main_v45 : Ref sig .tc := ⟨.hbm, 196, rfl⟩
abbrev main_v46 : Ref sig .tc := ⟨.hbm, 197, rfl⟩
abbrev main_v47 : Ref sig .tc := ⟨.hbm, 198, rfl⟩
abbrev main_v48 : Ref sig .tc := ⟨.hbm, 199, rfl⟩
abbrev main_v49 : Ref sig .tc := ⟨.hbm, 200, rfl⟩
abbrev main_v50 : Ref sig .tc := ⟨.hbm, 201, rfl⟩
abbrev main_c_2 : Ref sig .tc := ⟨.hbm, 202, rfl⟩
abbrev main_v51 : Ref sig .tc := ⟨.hbm, 203, rfl⟩
abbrev main_call6_c : Ref sig .tc := ⟨.hbm, 204, rfl⟩
abbrev main_call6_v0 : Ref sig .tc := ⟨.hbm, 205, rfl⟩
abbrev main_call6_v1 : Ref sig .tc := ⟨.hbm, 206, rfl⟩
abbrev main_call6_c_0 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_v5 : Ref sig .tc := ⟨.hbm, 211, rfl⟩
abbrev main_call6_c_1 : Ref sig .tc := ⟨.hbm, 212, rfl⟩
abbrev main_call6_c_2 : Ref sig .tc := ⟨.hbm, 213, rfl⟩
abbrev main_call6_v6 : Ref sig .tc := ⟨.hbm, 214, rfl⟩
abbrev main_call6_v7 : Ref sig .tc := ⟨.hbm, 215, rfl⟩
abbrev main_call6_v8 : Ref sig .tc := ⟨.hbm, 216, rfl⟩
abbrev main_call6_v9 : Ref sig .tc := ⟨.hbm, 217, rfl⟩
abbrev main_call6_v10 : Ref sig .tc := ⟨.hbm, 218, rfl⟩
abbrev main_call6_v11 : Ref sig .tc := ⟨.hbm, 219, rfl⟩
abbrev main_call6_c_3 : Ref sig .tc := ⟨.hbm, 220, rfl⟩
abbrev main_call6_v12 : Ref sig .tc := ⟨.hbm, 221, rfl⟩
abbrev main_call6_v13 : Ref sig .tc := ⟨.hbm, 222, rfl⟩
abbrev main_call6_v14 : Ref sig .tc := ⟨.hbm, 223, rfl⟩
abbrev main_call6_cst : Ref sig .tc := ⟨.hbm, 224, rfl⟩
abbrev main_call6_v15 : Ref sig .tc := ⟨.hbm, 225, rfl⟩
abbrev main_v52 : Ref sig .tc := ⟨.hbm, 226, rfl⟩
abbrev main_v53 : Ref sig .tc := ⟨.hbm, 227, rfl⟩
abbrev main_v54 : Ref sig .tc := ⟨.hbm, 228, rfl⟩
abbrev main_call7_c : Ref sig .tc := ⟨.hbm, 229, rfl⟩
abbrev main_call7_v0 : Ref sig .tc := ⟨.hbm, 230, rfl⟩
abbrev main_call7_v1 : Ref sig .tc := ⟨.hbm, 231, rfl⟩
abbrev main_call7_c_0 : Ref sig .tc := ⟨.hbm, 232, rfl⟩
abbrev main_call7_v2 : Ref sig .tc := ⟨.hbm, 233, rfl⟩
abbrev main_call7_v3 : Ref sig .tc := ⟨.hbm, 234, rfl⟩
abbrev main_call7_v4 : Ref sig .tc := ⟨.hbm, 235, rfl⟩
abbrev main_call7_v5 : Ref sig .tc := ⟨.hbm, 236, rfl⟩
abbrev main_call7_c_1 : Ref sig .tc := ⟨.hbm, 237, rfl⟩
abbrev main_call7_c_2 : Ref sig .tc := ⟨.hbm, 238, rfl⟩
abbrev main_call7_v6 : Ref sig .tc := ⟨.hbm, 239, rfl⟩
abbrev main_call7_v7 : Ref sig .tc := ⟨.hbm, 240, rfl⟩
abbrev main_call7_v8 : Ref sig .tc := ⟨.hbm, 241, rfl⟩
abbrev main_call7_v9 : Ref sig .tc := ⟨.hbm, 242, rfl⟩
abbrev main_call7_v10 : Ref sig .tc := ⟨.hbm, 243, rfl⟩
abbrev main_call7_v11 : Ref sig .tc := ⟨.hbm, 244, rfl⟩
abbrev main_call7_c_3 : Ref sig .tc := ⟨.hbm, 245, rfl⟩
abbrev main_call7_v12 : Ref sig .tc := ⟨.hbm, 246, rfl⟩
abbrev main_call7_v13 : Ref sig .tc := ⟨.hbm, 247, rfl⟩
abbrev main_call7_v14 : Ref sig .tc := ⟨.hbm, 248, rfl⟩
abbrev main_call7_cst : Ref sig .tc := ⟨.hbm, 249, rfl⟩
abbrev main_call7_v15 : Ref sig .tc := ⟨.hbm, 250, rfl⟩
abbrev main_v55 : Ref sig .tc := ⟨.hbm, 251, rfl⟩
abbrev main_call8_c : Ref sig .tc := ⟨.hbm, 252, rfl⟩
abbrev main_call8_v0 : Ref sig .tc := ⟨.hbm, 253, rfl⟩
abbrev main_call8_v1 : Ref sig .tc := ⟨.hbm, 254, rfl⟩
abbrev main_call8_c_0 : Ref sig .tc := ⟨.hbm, 255, rfl⟩
abbrev main_call8_v2 : Ref sig .tc := ⟨.hbm, 256, rfl⟩
abbrev main_call8_v3 : Ref sig .tc := ⟨.hbm, 257, rfl⟩
abbrev main_call8_v4 : Ref sig .tc := ⟨.hbm, 258, rfl⟩
abbrev main_call8_v5 : Ref sig .tc := ⟨.hbm, 259, rfl⟩
abbrev main_call8_c_1 : Ref sig .tc := ⟨.hbm, 260, rfl⟩
abbrev main_call8_c_2 : Ref sig .tc := ⟨.hbm, 261, rfl⟩
abbrev main_call8_v6 : Ref sig .tc := ⟨.hbm, 262, rfl⟩
abbrev main_call8_v7 : Ref sig .tc := ⟨.hbm, 263, rfl⟩
abbrev main_call8_v8 : Ref sig .tc := ⟨.hbm, 264, rfl⟩
abbrev main_call8_v9 : Ref sig .tc := ⟨.hbm, 265, rfl⟩
abbrev main_call8_v10 : Ref sig .tc := ⟨.hbm, 266, rfl⟩
abbrev main_call8_v11 : Ref sig .tc := ⟨.hbm, 267, rfl⟩
abbrev main_call8_c_3 : Ref sig .tc := ⟨.hbm, 268, rfl⟩
abbrev main_call8_v12 : Ref sig .tc := ⟨.hbm, 269, rfl⟩
abbrev main_call8_v13 : Ref sig .tc := ⟨.hbm, 270, rfl⟩
abbrev main_call8_v14 : Ref sig .tc := ⟨.hbm, 271, rfl⟩
abbrev main_call8_cst : Ref sig .tc := ⟨.hbm, 272, rfl⟩
abbrev main_call8_v15 : Ref sig .tc := ⟨.hbm, 273, rfl⟩
abbrev main_v56 : Ref sig .tc := ⟨.hbm, 274, rfl⟩
abbrev main_v57 : Ref sig .tc := ⟨.hbm, 275, rfl⟩

abbrev nD : Nat := 1
abbrev τ : Topo := Topo.v7x

variable {F : FTy → Type} [FloatOps F]
-- ==== Proof.Pre.lean ====
/- What the two preconditions say of the argument arrays, element by element. -/
module

public import proofs.«01_k».proof.Defs
public import proofs.«01_k».proof.Proof.Gen.Pre_chains_in_range
public import proofs.«01_k».proof.Proof.Gen.Pre_inputs_as_drawn
public import Idealize.ShloMosaic.Lib.Pointwise
public import Idealize.ShloMosaic.Lib.Claim

@[expose] public section

noncomputable section

namespace Cert.Drawn

open Idealize.ShloMosaic Idealize.ShloMosaic.Pointwise

/-- A comparison's bit is 1 exactly where the comparison holds. -/
theorem bit_one (b : Bool) : BitVec.ofBool b = 1#1 ↔ b = true := by cases b <;> decide

/-- The conjunction of two bits is 1 exactly where both are. -/
theorem and_one (a b : BitVec 1) : a &&& b = 1#1 ↔ a = 1#1 ∧ b = 1#1 := by
  revert a b; decide

/-- A signed word that is at least 0 and less than `k` is the word of a natural number less than `k`. -/
theorem word_range (x : BitVec 32) (k : ℕ) (hk : k < 2 ^ 31) (h0 : BitVec.sle 0#32 x = true) (h1 : BitVec.slt x (BitVec.ofNat 32 k) = true) :
    x.toNat < k := by
  rw [BitVec.sle_eq_decide, decide_eq_true_eq] at h0
  rw [BitVec.slt_eq_decide, decide_eq_true_eq] at h1
  simp only [BitVec.toInt_eq_toNat_cond, BitVec.toNat_ofNat] at h0 h1
  have := x.isLt
  split at h0 <;> split at h1 <;> split at h1 <;> omega

/-- A word below 2 is 0 or 1. -/
theorem zero_or_one (x : BitVec 32) (h : x.toNat < 2) : x = 0#32 ∨ x = 1#32 := by
  have : x.toNat = 0 ∨ x.toNat = 1 := by omega
  rcases this with h | h
  · exact .inl (BitVec.eq_of_toNat_eq h)
  · exact .inr (BitVec.eq_of_toNat_eq h)

/-- What `inputs_as_drawn` says, element by element. -/
structure Inputs {F : FTy → Type} [FloatOps F] (a1 a2 a3 a4 : IVec Pre_inputs_as_drawn.S1x512 32) (a15 : FVec F Pre_inputs_as_drawn.S5x128 .f32) : Prop where
  chain : ∀ y, a3 y = 0#32 ∨ a3 y = 1#32
  seq : ∀ y, (a1 y).toNat < 22
  epi : ∀ y, (a4 y).toNat < 2
  idx : ∀ y, a2 y = a2 (ix2 0 0) + BitVec.ofNat 32 (y 1).val
  mid : ∀ (r : Fin 3) (d : Fin 128), FloatOps.cmpf .oeq (FloatOps.subf (a15 (ix2 ⟨1 + r.val, by omega⟩ d)) (a15 (ix2 ⟨1 + r.val, by omega⟩ d)))
      (FloatOps.ofBits .f32 0x00000000#32) = 1#1

section

variable {F : FTy → Type} [FloatOps F] (a1 a2 a3 a4 : IVec Pre_chains_in_range.S1x512 32)

/-- `chains_in_range` makes every chain index 0 or 1. -/
theorem chain_word {a0 a5 a6 a7 a8 a9 a10 a11 a12 a13 a14 a15}
    (h : Pre_chains_in_range.fn (F := F) a0 a1 a2 a3 a4 a5 a6 a7 a8 a9 a10 a11 a12 a13 a14 a15 = fun _ => 1#1)
    (y : Pre_chains_in_range.S1x512.Idx) : a3 y = 0#32 ∨ a3 y = 1#32 := by
  have e := congrFun h y
  simp only [Pre_chains_in_range.fn, andi, cmpi, broadcastInDim, constantI, IntOp.cmpi, IntOp.andi, bit_one, and_one] at e
  exact zero_or_one _ (word_range _ 2 (by decide) e.1 e.2)

/-- `inputs_as_drawn`, element by element. -/
theorem drawn {a0 a5 a6 a7 a8 a9 a10 a11 a12 a13 a14 a15}
    (h : (Pre_inputs_as_drawn.fn (F := F) a0 a1 a2 a3 a4 a5 a6 a7 a8 a9 a10 a11 a12 a13 a14 a15).1 = (fun _ => 1#1)
      ∧ (Pre_inputs_as_drawn.fn (F := F) a0 a1 a2 a3 a4 a5 a6 a7 a8 a9 a10 a11 a12 a13 a14 a15).2.1 = (fun _ => 1#1)
      ∧ (Pre_inputs_as_drawn.fn (F := F) a0 a1 a2 a3 a4 a5 a6 a7 a8 a9 a10 a11 a12 a13 a14 a15).2.2.1 = (fun _ => 1#1)
      ∧ (Pre_inputs_as_drawn.fn (F := F) a0 a1 a2 a3 a4 a5 a6 a7 a8 a9 a10 a11 a12 a13 a14 a15).2.2.2.1 = (fun _ => 1#1)
      ∧ (Pre_inputs_as_drawn.fn (F := F) a0 a1 a2 a3 a4 a5 a6 a7 a8 a9 a10 a11 a12 a13 a14 a15).2.2.2.2 = (fun _ => 1#1)) :
    Inputs a1 a2 a3 a4 a15 := by
  obtain ⟨h1, h2, h3, h4, h5⟩ := h
  simp only [Pre_inputs_as_drawn.fn, Pre_inputs_as_drawn.fn_part1] at h1 h2 h3 h4 h5
  refine ⟨fun y => ?_, fun y => ?_, fun y => ?_, fun y => ?_, fun r d => ?_⟩
  · have e := congrFun h1 y
    simp only [andi, cmpi, broadcastInDim, constantI, IntOp.cmpi, IntOp.andi, bit_one, and_one] at e
    exact zero_or_one _ (word_range _ 2 (by decide) e.1 e.2)
  · have e := congrFun h2 y
    simp only [andi, cmpi, broadcastInDim, constantI, IntOp.cmpi, IntOp.andi, bit_one, and_one] at e
    exact word_range _ 22 (by decide) e.1 e.2
  · have e := congrFun h3 y
    simp only [andi, cmpi, broadcastInDim, constantI, IntOp.cmpi, IntOp.andi, bit_one, and_one] at e
    exact word_range _ 2 (by decide) e.1 e.2
  · have e := congrFun h4 y
    simp only [cmpi, IntOp.cmpi, bit_one, decide_eq_true_eq, beq_iff_eq] at e
    rw [e]
    show broadcastInDim _ _ _ _ y + _ = _
    rw [broadcastInDim_apply _ _ _ _ (ix2 0 0) (fun a => by fin_cases a <;> rfl)]
    exact congrArg₂ (· + ·) (congrArg a2 (funext fun a => Fin.ext (by fin_cases a <;> rfl))) rfl
  · have e := congrFun h5 (ix2 r d)
    have q : extractStridedSlice Pre_inputs_as_drawn.S3x128 ![1, 0] a15 Pre_inputs_as_drawn.Facts.slices_S5x128_S3x128_1_0 (ix2 r d)
        = a15 (ix2 ⟨1 + r.val, by omega⟩ d) := by
      refine congrArg a15 (funext fun a => Fin.ext ?_)
      fin_cases a
      · rfl
      · exact Nat.zero_add _
    rw [← q]
    exact e

end

end Cert.Drawn

end
-- ==== Proof.Kernel.Frame.lean ====
/- What the body needs of the chain indices, from a bound on the argument array. -/
module

public import proofs.«01_k».proof.Proof.Kernel.Run
public import proofs.«01_k».proof.Proof.Pre

@[expose] public section

noncomputable section

namespace Cert.Kernel.Fused

open Idealize.ShloMosaic Idealize.ShloMosaic.TcCoe Cert.Kernel Cert.Kernel.Gen

variable {F : FTy → Type} [FloatOps F] (m : (ℓ : Loc nD τ sig) → Buf (Elt F) ℓ)

/-- If every chain index is 0 or 1, every chain word that the body reads is. -/
theorem words_of (h : ∀ (c : Dev nD) (y : S1x512.Idx), (m ((c.tc : Thread nD τ).loc main_arg3) : IVec S1x512 32) y = 0#32
      ∨ (m ((c.tc : Thread nD τ).loc main_arg3) : IVec S1x512 32) y = 1#32) : Words m := by
  intro c t y
  have e : (iblk m c 6 t : IVec S1x512 32) y = (V m c main_arg3 : IVec S1x512 32) (((cfg0.win 6).blk t).view.emb y) := rfl
  rw [e, V_main_arg3]
  exact h c _

end Cert.Kernel.Fused

end
-- ==== Proof.KernelIdeal.Blocks.lean ====
/- What one grid step of the fused kernel computes: closed forms of the blocks it writes, and the side condition of its data-dependent reads. -/
module

public import proofs.«01_k».proof.Proof.Gen.KernelIdeal.Frame
public import proofs.«01_k».proof.Proof.Gen.KernelIdeal.Skeleton
public import Idealize.ShloMosaic.Lib.Pointwise
public import Idealize.ShloMosaic.Lib.WholeRead

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise
open Cert.KernelIdeal Cert.KernelIdeal.Gen

variable {F : FTy → Type} [FloatOps F]

local notation "𝕄" => MT nD τ sig Unit (Elt F) ℕ (UR sig nD τ) ℕ

/-- A chain word that is 0 or 1 makes the row offset `512 * word` of the left table's read lie inside the table. -/
theorem chk_of_word {v : BitVec 32} (h : v = 0#32 ∨ v = 1#32) : k0_chk1 v := by
  rcases h with rfl | rfl <;> decide

/-- Reading one word of a whole buffer of chain words that are all 0 or 1 gives 0 or 1. -/
theorem word_read {κ : Kind} {sp : Space} {a : Memref sig κ sp S1x512 .i32} (h : a.IsWhole) {x6 : Vec F S1x512 .i32}
    (hw : ∀ y, x6 y = 0#32 ∨ x6 y = 1#32) (B : LoadRect S1x512) (x : B.shape.Idx) :
    View.readAt (Elt F) a.view B (h.unread x6) x = 0#32 ∨ View.readAt (Elt F) a.view B (h.unread x6) x = 1#32 := by
  rw [h.readAt_unread]; exact hw _

/-- Loading a rectangle of a whole buffer gives its contents at the rectangle's places. -/
theorem load_eq {κ : Kind} {sp : Space} {s : Shape} {e : EltTy} {m : Memref sig κ sp s e} (h : m.IsWhole) (X : Vec F s e) (B : LoadRect s) :
    View.readAt (Elt F) m.view B (h.unread X) = fun z => X (B.idx z) := funext fun z => h.readAt_unread X B z

/-- Loading the whole of a whole buffer gives its contents. -/
theorem whole_load {κ : Kind} {sp : Space} {a b : ℕ} {e : EltTy} {m : Memref sig κ sp ⟨2, ![a, b]⟩ e} (h : m.IsWhole)
    (X : Vec F ⟨2, ![a, b]⟩ e) (inb : ∀ k, (![0, 0] : Fin 2 → ℕ) k + (![a, b] : Fin 2 → ℕ) k ≤ (![a, b] : Fin 2 → ℕ) k) :
    View.readAt (Elt F) m.view (Rect.unit (s := ⟨2, ![a, b]⟩) ![0, 0] ![a, b] inb).toLoadRect (h.unread X) = X := by
  funext z
  rw [h.readAt_unread]
  refine congrArg X (funext fun k => Fin.ext ?_)
  fin_cases k
  · show 0 + 1 * (z 0).val = (z 0).val
    omega
  · show 0 + 1 * (z 1).val = (z 1).val
    omega

/-- One sequence's slice of the MSA block, as a matrix. -/
def msaSlice (x0 : Vec F S1x4x512x48 .f32) (n : Fin 4) : FVec F S512x48 .f32 := fun z => x0 (ix4 0 n (z 0) (z 1))

/-- The MSA output block: each sequence's slice times the weights, plus the per-residue row table `Q`. -/
def msaBlk (x0 : Vec F S1x4x512x48 .f32) (x1 : Vec F S48x256 .f32) (Q : Vec F S512x256 .f32) : Vec F S1x4x512x256 .f32 := fun y =>
  addf (matmul dot_S512x48_S48x256_S512x256_1_0_0_1_n_n none (msaSlice x0 (y 1)) x1 (constant S512x256 .f32 0x00000000#32)) Q
    (ix2 (y 2) (y 3))

/-- Row 1 of the chain-separation table. -/
def p1 (x15 : Vec F S5x128 .f32) : Vec F S1x128 .f32 :=
  fun z => x15 ((Rect.unit (s := S5x128) ![1, 0] S1x128.size inb_S5x128_S1x128_1_0).toLoadRect.idx z)

/-- Row 2 of the chain-separation table. -/
def p2 (x15 : Vec F S5x128 .f32) : Vec F S1x128 .f32 :=
  fun z => x15 ((Rect.unit (s := S5x128) ![2, 0] S1x128.size inb_S5x128_S1x128_2_0).toLoadRect.idx z)

/-- Row 3 of the chain-separation table. -/
def p3 (x15 : Vec F S5x128 .f32) : Vec F S1x128 .f32 :=
  fun z => x15 ((Rect.unit (s := S5x128) ![3, 0] S1x128.size inb_S5x128_S1x128_3_0).toLoadRect.idx z)

/-- The left table's first half: what a residue of chain `ch` adds to a pair whose row is in chain 0. -/
def leftTop (seq epi ch : Vec F S512x1 .i32) (lw : Vec F S22x128 .f32) (lew : Vec F S2x128 .f32) (pc : Vec F S5x128 .f32) :
    FVec F S512x128 .f32 := k0_pay7 seq epi ch (p2 pc) (p3 pc) lw lew

/-- The left table's second half: what a residue of chain `ch` adds to a pair whose row is in chain 1. -/
def leftBot (seq epi ch : Vec F S512x1 .i32) (lw : Vec F S22x128 .f32) (lew : Vec F S2x128 .f32) (pc : Vec F S5x128 .f32) :
    FVec F S512x128 .f32 := k0_pay9 (k0_pay5 ch) (p3 pc) (k0_pay6 seq epi ch (p2 pc) (p3 pc) lw lew) (k0_pay8 (p1 pc) (p2 pc))

/-- The left table: its two halves one above the other. -/
def leftScr (seq epi ch : Vec F S512x1 .i32) (lw : Vec F S22x128 .f32) (lew : Vec F S2x128 .f32) (pc : Vec F S5x128 .f32) :
    Vec F S1024x128 .f32 := fun y =>
  if h : (y 0).val < 512 then leftTop seq epi ch lw lew pc (ix2 ⟨(y 0).val, h⟩ (y 1))
  else leftBot seq epi ch lw lew pc (ix2 ⟨(y 0).val - 512, by have h0 : (y 0).val < 1024 := (y 0).isLt; omega⟩ (y 1))

/-- The right table: what a residue adds to a pair as its row. -/
def rightScr (seq epi ch : Vec F S512x1 .i32) (rw : Vec F S22x128 .f32) (rew : Vec F S2x128 .f32) (pc : Vec F S5x128 .f32) :
    FVec F S512x128 .f32 := k0_pay10 (k0_pay3 seq) (k0_pay4 epi) (k0_pay5 ch) (p1 pc) (p2 pc) rw rew

/-- The per-residue row table of the MSA result: the residue's query embedding plus the bias. -/
def qScr (seq : Vec F S512x1 .i32) (qw : Vec F S22x256 .f32) (b : Vec F S1x256 .f32) : FVec F S512x256 .f32 := k0_pay11 (k0_pay3 seq) qw b

/-- The diagonal table: the relative-position row of every offset. -/
def diagScr (pw : Vec F S65x128 .f32) : FVec F S1024x128 .f32 := k0_pay15 pw

/-- The state block: each residue's state embedding plus its chain-side embedding. -/
def stateBlk (seq epi : Vec F S512x1 .i32) (sw : Vec F S22x32 .f32) (sew : Vec F S2x32 .f32) : FVec F S1x512x32 .f32 :=
  k0_pay14 (k0_pay12 (k0_pay3 seq) sw) (k0_pay13 (k0_pay4 epi) sew)

/-- The first row of the half of the left table that a chain word selects. -/
def half (w : BitVec 32) : ℕ := if w = 1#32 then 512 else 0

theorem half_le (w : BitVec 32) : half w ≤ 512 := by unfold half; split <;> omega

/-- The pair output block at grid point `i`: row `r` of it is global row `32 i + r`; its entry at column `j` is the left table's row `j` (in the
half that the row's chain word selects), plus the diagonal table's row `511 - (32 i + r) + j`, plus the right table's row `32 i + r`. -/
def pairBlk (i : grid0.Coords) (x6 : Vec F S1x512 .i32) (L : Vec F S1024x128 .f32) (R : Vec F S512x128 .f32) (D : Vec F S1024x128 .f32) :
    Vec F S1x32x512x128 .f32 := fun y =>
  have hi : (i 0).val < 16 := (i 0).isLt
  have h1 : (y 1).val < 32 := (y 1).isLt
  have h2 : (y 2).val < 512 := (y 2).isLt
  let r : Fin 512 := ⟨32 * (i 0).val + (y 1).val, by omega⟩
  have hh := half_le (x6 (ix2 0 r))
  FloatOps.addf (FloatOps.addf (L (ix2 ⟨half (x6 (ix2 0 r)) + (y 2).val, by omega⟩ (y 3)))
      (D (ix2 ⟨511 - r.val + (y 2).val, by omega⟩ (y 3))))
    (R (ix2 r (y 3)))

/-- A matrix cast to a block with two leading unit axes reads, at an index, the matrix at the two trailing coordinates. -/
theorem addUnits_apply {α : Type} {a b : ℕ} (v : (⟨2, ![a, b]⟩ : Shape).Idx → α) (h : (⟨2, ![a, b]⟩ : Shape).ShapeCasts ⟨4, ![1, 1, a, b]⟩)
    (x : (⟨4, ![1, 1, a, b]⟩ : Shape).Idx) : shapeCast ⟨4, ![1, 1, a, b]⟩ v h x = v (ix2 (x 2) (x 3)) :=
  shapeCast_apply v h x _ (by
    have h0 : (x 0).val = 0 := Nat.lt_one_iff.1 (x 0).isLt
    have h1 : (x 1).val = 0 := Nat.lt_one_iff.1 (x 1).isLt
    rw [Shape.rowMajor_val_two, Shape.rowMajor_val_four, h0, h1]
    show (x 2).val * b + (x 3).val = ((0 * 1 + 0) * a + (x 2).val) * b + (x 3).val
    simp)

/-- A block with two leading unit axes cast to a matrix reads, at an index, the block at `(0, 0, i, j)`. -/
theorem dropUnits_apply {α : Type} {a b : ℕ} (v : (⟨4, ![1, 1, a, b]⟩ : Shape).Idx → α) (h : (⟨4, ![1, 1, a, b]⟩ : Shape).ShapeCasts ⟨2, ![a, b]⟩)
    (x : (⟨2, ![a, b]⟩ : Shape).Idx) : shapeCast ⟨2, ![a, b]⟩ v h x = v (ix4 0 0 (x 0) (x 1)) :=
  shapeCast_apply v h x _ (by
    rw [Shape.rowMajor_val_two, Shape.rowMajor_val_four]
    show ((0 * 1 + 0) * a + (x 0).val) * b + (x 1).val = (x 0).val * b + (x 1).val
    simp)

/-- Slice `n` of a whole MSA block, loaded and cast to a matrix. -/
theorem slice_load {κ : Kind} {sp : Space} {m : Memref sig κ sp S1x4x512x48 .f32} (h : m.IsWhole) (X : Vec F S1x4x512x48 .f32)
    (n : ℕ) (hn : n < 4) (inb : ∀ a, (![0, n, 0, 0] : Fin 4 → ℕ) a + S1x1x512x48.size a ≤ S1x4x512x48.size a)
    (hs : S1x1x512x48.ShapeCasts S512x48) :
    shapeCast S512x48 (View.readAt (Elt F) m.view (Rect.unit (s := S1x4x512x48) ![0, n, 0, 0] S1x1x512x48.size inb).toLoadRect (h.unread X)) hs
      = msaSlice X ⟨n, hn⟩ := by
  rw [load_eq]
  funext z
  rw [dropUnits_apply]
  refine congrArg X (funext fun b => Fin.ext ?_)
  fin_cases b
  · rfl
  · show n + 1 * 0 = n
    omega
  · show 0 + 1 * (z 0).val = (z 0).val
    omega
  · show 0 + 1 * (z 1).val = (z 1).val
    omega

/-- The value the body stores for sequence `n` of the MSA block is that block's slice `n`. -/
theorem msaRow_eq (n : ℕ) (hn : n < 4) (ho : ∀ a, (![0, n, 0, 0] : Fin 4 → ℕ) a + S1x1x512x256.size a ≤ S1x4x512x256.size a)
    (x0 : Vec F S1x4x512x48 .f32) (x1 : Vec F S48x256 .f32) (Q : Vec F S512x256 .f32)
    {a : FVec F S512x48 .f32} {w : Vec F S48x256 .f32} {q k : Vec F S512x256 .f32} (ha : a = msaSlice x0 ⟨n, hn⟩)
    (hw : w = x1) (hq : q = Q) (hk : k = constant S512x256 .f32 0x00000000#32) (x : S1x1x512x256.Idx) :
    shapeCast S1x1x512x256 (addf (matmul dot_S512x48_S48x256_S512x256_1_0_0_1_n_n none a w k) q) shapeCasts_S512x256_S1x1x512x256 x
      = msaBlk x0 x1 Q ((Rect.unit (s := S1x4x512x256) ![0, n, 0, 0] S1x1x512x256.size ho).emb x) := by
  subst hw hq hk ha
  rw [addUnits_apply]
  have hx1 : (x 1).val = 0 := Nat.lt_one_iff.1 (x 1).isLt
  set y := (Rect.unit (s := S1x4x512x256) ![0, n, 0, 0] S1x1x512x256.size ho).emb x with hy
  have y1 : (⟨n, hn⟩ : Fin 4) = y 1 := Fin.ext (by show n = n + 1 * (x 1).val; omega)
  have y23 : ix2 (x 2) (x 3) = ix2 (y 2) (y 3) := by
    funext b
    refine Fin.ext ?_
    fin_cases b
    · show (x 2).val = 0 + 1 * (x 2).val
      omega
    · show (x 3).val = 0 + 1 * (x 3).val
      omega
  unfold msaBlk
  rw [y1]
  exact congrArg _ y23

/-- The left table's row offset for a chain word that is 0 or 1. -/
theorem off_of_word {v : BitVec 32} (h : v = 0#32 ∨ v = 1#32) : k0_off4 v 0 = half v ∧ k0_off4 v 1 = 0 := by
  rcases h with rfl | rfl <;> decide

/-- The value the body stores for row `n` of the pair block is that block's row `n`. -/
theorem pairRow_eq (n : ℕ) (offD offR offW : grid0.Coords → Fin 2 → ℕ)
    (hoD : ∀ i, offD i 0 = 511 - (32 * (i 0).val + n) ∧ offD i 1 = 0)
    (hoR : ∀ i, offR i 0 = 32 * (i 0).val + n ∧ offR i 1 = 0)
    (hoW : ∀ i, offW i 0 = 0 ∧ offW i 1 = 32 * (i 0).val + n) (i : grid0.Coords)
    (hD : ∀ a, offD i a + S512x128.size a ≤ S1024x128.size a) (hR : ∀ a, offR i a + S1x128.size a ≤ S512x128.size a)
    (hW : ∀ a, offW i a + S1x1.size a ≤ S1x512.size a)
    (ho : ∀ a, (![0, n, 0, 0] : Fin 4 → ℕ) a + S1x1x512x128.size a ≤ S1x32x512x128.size a)
    {x6 : Vec F S1x512 .i32} (hx6 : ∀ y, x6 y = 0#32 ∨ x6 y = 1#32) (L : Vec F S1024x128 .f32) (R : Vec F S512x128 .f32) (D : Vec F S1024x128 .f32)
    (z : S1x1.Idx) {v : BitVec 32} (hv : v = x6 ((Rect.unit (s := S1x512) (offW i) S1x1.size hW).toLoadRect.idx z))
    (hL : ∀ a, k0_off4 v a + S512x128.size a ≤ S1024x128.size a)
    {l d : Vec F S512x128 .f32} {r : Vec F S1x128 .f32}
    (el : l = fun z => L ((Rect.unit (s := S1024x128) (k0_off4 v) S512x128.size hL).toLoadRect.idx z))
    (ed : d = fun z => D ((Rect.unit (s := S1024x128) (offD i) S512x128.size hD).toLoadRect.idx z))
    (er : r = fun z => R ((Rect.unit (s := S512x128) (offR i) S1x128.size hR).toLoadRect.idx z)) (x : S1x1x512x128.Idx) :
    shapeCast S1x1x512x128 (addf (addf l d) (broadcastTo S512x128 r broadcasts_S1x128_S512x128)) shapeCasts_S512x128_S1x1x512x128 x
      = pairBlk i x6 L R D ((Rect.unit (s := S1x32x512x128) ![0, n, 0, 0] S1x1x512x128.size ho).emb x) := by
  have hn : n + 1 ≤ 32 := ho 1
  have hi : (i 0).val < 16 := (i 0).isLt
  have hx1 : (x 1).val = 0 := Nat.lt_one_iff.1 (x 1).isLt
  have hx2 : (x 2).val < 512 := (x 2).isLt
  have hz0 : (z 0).val = 0 := Nat.lt_one_iff.1 (z 0).isLt
  have hz1 : (z 1).val = 0 := Nat.lt_one_iff.1 (z 1).isLt
  set y := (Rect.unit (s := S1x32x512x128) ![0, n, 0, 0] S1x1x512x128.size ho).emb x with hy
  have y1 : (y 1).val = n := by show n + 1 * (x 1).val = n; omega
  have y2 : (y 2).val = (x 2).val := by show 0 + 1 * (x 2).val = _; omega
  have y3 : (y 3).val = (x 3).val := by show 0 + 1 * (x 3).val = _; omega
  obtain ⟨hoD0, hoD1⟩ := hoD i
  obtain ⟨hoR0, hoR1⟩ := hoR i
  obtain ⟨hoW0, hoW1⟩ := hoW i
  have hvw : v = x6 (ix2 (n0 := 1) (n1 := 512) 0 ⟨32 * (i 0).val + (y 1).val, by omega⟩) := by
    rw [hv]
    refine congrArg x6 (funext fun b => Fin.ext ?_)
    fin_cases b
    · show offW i 0 + 1 * (z 0).val = 0
      omega
    · show offW i 1 + 1 * (z 1).val = 32 * (i 0).val + (y 1).val
      omega
  obtain ⟨oL0, oL1⟩ := off_of_word (v := v) (by rw [hvw]; exact hx6 _)
  rw [addUnits_apply]
  subst el ed er
  have e1 : broadcastTo S512x128 (fun z => R ((Rect.unit (s := S512x128) (offR i) S1x128.size hR).toLoadRect.idx z)) broadcasts_S1x128_S512x128
      (ix2 (x 2) (x 3)) = R (ix2 (n0 := 512) (n1 := 128) ⟨32 * (i 0).val + (y 1).val, by omega⟩ (y 3)) := by
    rw [broadcastTo_apply _ _ _ (ix2 (n0 := 1) (n1 := 128) 0 (x 3)) (fun a => by fin_cases a <;> rfl)]
    refine congrArg R (funext fun b => Fin.ext ?_)
    fin_cases b
    · show offR i 0 + 1 * 0 = 32 * (i 0).val + (y 1).val
      omega
    · show offR i 1 + 1 * (x 3).val = (y 3).val
      omega
  unfold pairBlk
  show FloatOps.addf (FloatOps.addf _ _) (broadcastTo S512x128 _ _ _) = _
  rw [e1]
  refine congrArg₂ _ (congrArg₂ _ (congrArg L (funext fun b => Fin.ext ?_)) (congrArg D (funext fun b => Fin.ext ?_))) rfl
  · fin_cases b
    · show k0_off4 v 0 + 1 * (x 2).val = half (x6 _) + (y 2).val
      rw [oL0, hvw, y2]; omega
    · show k0_off4 v 1 + 1 * (x 3).val = (y 3).val
      omega
  · fin_cases b
    · show offD i 0 + 1 * (x 2).val = 511 - (32 * (i 0).val + (y 1).val) + (y 2).val
      omega
    · show offD i 1 + 1 * (x 3).val = (y 3).val
      omega

end Cert.KernelIdeal.Fused

end
-- ==== Proof.KernelIdeal.Fill.lean ====
/- What the filling of the scratch arrays at the first grid point leaves in them. -/
module

public import proofs.«01_k».proof.Proof.KernelIdeal.Blocks

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise
open Cert.KernelIdeal Cert.KernelIdeal.Gen

variable {F : FTy → Type} [FloatOps F]

local notation "𝕄" => MT nD τ sig Unit (Elt F) ℕ (UR sig nD τ) ℕ

section values

variable {x2 : Vec F S1x256 .f32} {x3 x4 x5 : Vec F S512x1 .i32} {x7 : Vec F S22x256 .f32} {x8 x9 : Vec F S22x128 .f32}
  {x10 x11 : Vec F S2x128 .f32} {x12 : Vec F S22x32 .f32} {x13 : Vec F S2x32 .f32} {x14 : Vec F S65x128 .f32} {x15 : Vec F S5x128 .f32}
  {a2 : Vec F S1x256 .f32} {a3 a4 a5 : Vec F S512x1 .i32} {a7 : Vec F S22x256 .f32} {a8 a9 : Vec F S22x128 .f32}
  {a10 a11 : Vec F S2x128 .f32} {a12 : Vec F S22x32 .f32} {a13 : Vec F S2x32 .f32} {a14 : Vec F S65x128 .f32} {q1 q2 q3 : Vec F S1x128 .f32}

/-- The first stored half of the left table, from loads that read the inputs. -/
theorem leftTop_of (h3 : a3 = x3) (h4 : a4 = x4) (h5 : a5 = x5) (h8 : a8 = x8) (h10 : a10 = x10) (e2 : q2 = p2 x15) (e3 : q3 = p3 x15) :
    k0_pay7 a3 a4 a5 q2 q3 a8 a10 = leftTop x3 x4 x5 x8 x10 x15 := by
  subst h3 h4 h5 h8 h10 e2 e3; rfl

/-- The second stored half of the left table, from loads that read the inputs. -/
theorem leftBot_of (h3 : a3 = x3) (h4 : a4 = x4) (h5 : a5 = x5) (h8 : a8 = x8) (h10 : a10 = x10) (e1 : q1 = p1 x15) (e2 : q2 = p2 x15)
    (e3 : q3 = p3 x15) :
    k0_pay9 (k0_pay5 a5) q3 (k0_pay6 a3 a4 a5 q2 q3 a8 a10) (k0_pay8 q1 q2) = leftBot x3 x4 x5 x8 x10 x15 := by
  subst h3 h4 h5 h8 h10 e1 e2 e3; rfl

/-- The stored right table, from loads that read the inputs. -/
theorem right_of (h3 : a3 = x3) (h4 : a4 = x4) (h5 : a5 = x5) (h9 : a9 = x9) (h11 : a11 = x11) (e1 : q1 = p1 x15) (e2 : q2 = p2 x15) :
    k0_pay10 (k0_pay3 a3) (k0_pay4 a4) (k0_pay5 a5) q1 q2 a9 a11 = rightScr x3 x4 x5 x9 x11 x15 := by
  subst h3 h4 h5 h9 h11 e1 e2; rfl

/-- The stored MSA row table, from loads that read the inputs. -/
theorem q_of (h3 : a3 = x3) (h7 : a7 = x7) (h2 : a2 = x2) : k0_pay11 (k0_pay3 a3) a7 a2 = qScr x3 x7 x2 := by
  subst h3 h7 h2; rfl

/-- The stored diagonal table, from a load that reads the input. -/
theorem diag_of (h14 : a14 = x14) : k0_pay15 a14 = diagScr x14 := by
  subst h14; rfl

/-- The stored state block, from loads that read the inputs. -/
theorem state_of (h3 : a3 = x3) (h4 : a4 = x4) (h12 : a12 = x12) (h13 : a13 = x13) :
    k0_pay14 (k0_pay12 (k0_pay3 a3) a12) (k0_pay13 (k0_pay4 a4) a13) = stateBlk x3 x4 x12 x13 := by
  subst h3 h4 h12 h13; rfl

/-- A left table stored in two halves reads as the left table. -/
theorem read_left {κ : Kind} {sp : Space} (m : Memref sig κ sp S1024x128 .f32) (f : m.view.ty.Contents (Elt F))
    (inb : ∀ k, (![512, 0] : Fin 2 → ℕ) k + S512x128.size k ≤ S1024x128.size k)
    (inb' : ∀ k, (![0, 0] : Fin 2 → ℕ) k + S512x128.size k ≤ S1024x128.size k) {b t : Vec F S512x128 .f32}
    (hb : b = leftBot x3 x4 x5 x8 x10 x15) (ht : t = leftTop x3 x4 x5 x8 x10 x15) :
    m.view.read (Elt F) (m.view.writes (Elt F) f [⟨Rect.unit (s := S1024x128) ![512, 0] S512x128.size inb, b⟩,
      ⟨Rect.unit (s := S1024x128) ![0, 0] S512x128.size inb', t⟩]) = leftScr x3 x4 x5 x8 x10 x15 := by
  subst hb ht
  funext y
  refine View.read_writes_apply_of_pieces _ _ (leftScr x3 x4 x5 x8 x10 x15) _ ?_ y ?_
  swap
  · exact View.cover_of_tiledL (s := S1024x128) _ ![512, 128] (by rfl) y
  refine List.forall_mem_cons.2 ⟨fun x => ?_, List.forall_mem_cons.2 ⟨fun x => ?_, fun p hp => absurd hp List.not_mem_nil⟩⟩
  · show leftBot x3 x4 x5 x8 x10 x15 x = leftScr x3 x4 x5 x8 x10 x15 ((Rect.unit (s := S1024x128) ![512, 0] S512x128.size inb).emb x)
    unfold leftScr
    have e0 : ((Rect.unit (s := S1024x128) ![512, 0] S512x128.size inb).emb x 0).val = 512 + 1 * (x 0).val := rfl
    have e1 : ((Rect.unit (s := S1024x128) ![512, 0] S512x128.size inb).emb x 1).val = 0 + 1 * (x 1).val := rfl
    rw [dif_neg (by omega)]
    refine congrArg _ (funext fun k => Fin.ext ?_)
    fin_cases k
    · show (x 0).val = ((Rect.unit (s := S1024x128) ![512, 0] S512x128.size inb).emb x 0).val - 512
      omega
    · show (x 1).val = ((Rect.unit (s := S1024x128) ![512, 0] S512x128.size inb).emb x 1).val
      omega
  · show leftTop x3 x4 x5 x8 x10 x15 x = leftScr x3 x4 x5 x8 x10 x15 ((Rect.unit (s := S1024x128) ![0, 0] S512x128.size inb').emb x)
    unfold leftScr
    have hx : (x 0).val < 512 := (x 0).isLt
    have e0 : ((Rect.unit (s := S1024x128) ![0, 0] S512x128.size inb').emb x 0).val = 0 + 1 * (x 0).val := rfl
    have e1 : ((Rect.unit (s := S1024x128) ![0, 0] S512x128.size inb').emb x 1).val = 0 + 1 * (x 1).val := rfl
    rw [dif_pos (by omega)]
    refine congrArg _ (funext fun k => Fin.ext ?_)
    fin_cases k
    · show (x 0).val = ((Rect.unit (s := S1024x128) ![0, 0] S512x128.size inb').emb x 0).val
      omega
    · show (x 1).val = ((Rect.unit (s := S1024x128) ![0, 0] S512x128.size inb').emb x 1).val
      omega

end values

/-- A matrix stored whole reads as what was stored. -/
theorem read_whole2 {κ : Kind} {sp : Space} {a b : ℕ} {e : EltTy} (m : Memref sig κ sp ⟨2, ![a, b]⟩ e) (f : m.view.ty.Contents (Elt F))
    (inb : ∀ k, (![0, 0] : Fin 2 → ℕ) k + (![a, b] : Fin 2 → ℕ) k ≤ (![a, b] : Fin 2 → ℕ) k) {p X : Vec F ⟨2, ![a, b]⟩ e} (h : p = X) :
    m.view.read (Elt F) (m.view.writes (Elt F) f [⟨Rect.unit (s := ⟨2, ![a, b]⟩) ![0, 0] ![a, b] inb, p⟩]) = X := by
  subst h
  have hid : ∀ y, (Rect.unit (s := ⟨2, ![a, b]⟩) ![0, 0] ![a, b] inb).emb y = y := fun y => by
    refine funext fun k => Fin.ext ?_
    fin_cases k
    · show 0 + 1 * (y 0).val = (y 0).val
      omega
    · show 0 + 1 * (y 1).val = (y 1).val
      omega
  funext y
  refine View.read_writes_apply_of_pieces _ _ p _ ?_ y ⟨_, List.mem_singleton.2 rfl, ?_⟩
  · refine List.forall_mem_cons.2 ⟨fun x => ?_, fun p hp => absurd hp List.not_mem_nil⟩
    exact congrArg p (hid x).symm
  · have := (Rect.unit (s := ⟨2, ![a, b]⟩) ![0, 0] ![a, b] inb).toLoadRect.idx_mem y
    rwa [show (Rect.unit (s := ⟨2, ![a, b]⟩) ![0, 0] ![a, b] inb).toLoadRect.idx y = y from hid y] at this

/-- A rank-3 block stored whole reads as what was stored. -/
theorem read_whole3 {κ : Kind} {sp : Space} {a b d : ℕ} {e : EltTy} (m : Memref sig κ sp ⟨3, ![a, b, d]⟩ e) (f : m.view.ty.Contents (Elt F))
    (inb : ∀ k, (![0, 0, 0] : Fin 3 → ℕ) k + (![a, b, d] : Fin 3 → ℕ) k ≤ (![a, b, d] : Fin 3 → ℕ) k)
    {p X : Vec F ⟨3, ![a, b, d]⟩ e} (h : p = X) :
    m.view.read (Elt F) (m.view.writes (Elt F) f [⟨Rect.unit (s := ⟨3, ![a, b, d]⟩) ![0, 0, 0] ![a, b, d] inb, p⟩]) = X := by
  subst h
  have hid : ∀ y, (Rect.unit (s := ⟨3, ![a, b, d]⟩) ![0, 0, 0] ![a, b, d] inb).emb y = y := fun y => by
    refine funext fun k => Fin.ext ?_
    fin_cases k
    · show 0 + 1 * (y 0).val = (y 0).val
      omega
    · show 0 + 1 * (y 1).val = (y 1).val
      omega
    · show 0 + 1 * (y 2).val = (y 2).val
      omega
  funext y
  refine View.read_writes_apply_of_pieces _ _ p _ ?_ y ⟨_, List.mem_singleton.2 rfl, ?_⟩
  · refine List.forall_mem_cons.2 ⟨fun x => ?_, fun p hp => absurd hp List.not_mem_nil⟩
    exact congrArg p (hid x).symm
  · have := (Rect.unit (s := ⟨3, ![a, b, d]⟩) ![0, 0, 0] ![a, b, d] inb).toLoadRect.idx_mem y
    rwa [show (Rect.unit (s := ⟨3, ![a, b, d]⟩) ![0, 0, 0] ![a, b, d] inb).toLoadRect.idx y = y from hid y] at this

/-- Loading a rectangle of a buffer gives what the buffer reads at the rectangle's places. -/
theorem load_of_read {κ : Kind} {sp : Space} {s : Shape} {e : EltTy} {m : Memref sig κ sp s e} {g : m.view.ty.Contents (Elt F)} {X : Vec F s e}
    (h : m.view.read (Elt F) g = X) (B : LoadRect s) : View.readAt (Elt F) m.view B g = fun z => X (B.idx z) := by
  subst h; rfl

/-- Loading the whole of a buffer gives what it reads. -/
theorem whole_of_read {κ : Kind} {sp : Space} {a b : ℕ} {e : EltTy} {m : Memref sig κ sp ⟨2, ![a, b]⟩ e} {g : m.view.ty.Contents (Elt F)}
    {X : Vec F ⟨2, ![a, b]⟩ e} (h : m.view.read (Elt F) g = X)
    (inb : ∀ k, (![0, 0] : Fin 2 → ℕ) k + (![a, b] : Fin 2 → ℕ) k ≤ (![a, b] : Fin 2 → ℕ) k) :
    View.readAt (Elt F) m.view (Rect.unit (s := ⟨2, ![a, b]⟩) ![0, 0] ![a, b] inb).toLoadRect g = X := by
  rw [load_of_read h]
  funext z
  refine congrArg X (funext fun k => Fin.ext ?_)
  fin_cases k
  · show 0 + 1 * (z 0).val = (z 0).val
    omega
  · show 0 + 1 * (z 1).val = (z 1).val
    omega

end Cert.KernelIdeal.Fused

end
-- ==== Proof.KernelIdeal.RunFirst.lean ====
/- One run of the kernel's body at the first grid point, where the scratch arrays hold anything and are filled. -/
module

public import proofs.«01_k».proof.Proof.KernelIdeal.Fill

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise
open Cert.KernelIdeal Cert.KernelIdeal.Gen

variable {F : FTy → Type} [FloatOps F]

local notation "𝕄" => MT nD τ sig Unit (Elt F) ℕ (UR sig nD τ) ℕ

variable (c : Dev nD) (i : grid0.Coords)
variable
    (arg1 : Memref sig .tc .vmem S1x4x512x48 .f32) (harg1 : arg1.IsWhole) (arg2 : Memref sig .tc .vmem S48x256 .f32) (harg2 : arg2.IsWhole)
    (arg3 : Memref sig .tc .vmem S1x256 .f32) (harg3 : arg3.IsWhole) (arg4 : Memref sig .tc .vmem S512x1 .i32) (harg4 : arg4.IsWhole)
    (arg5 : Memref sig .tc .vmem S512x1 .i32) (harg5 : arg5.IsWhole) (arg6 : Memref sig .tc .vmem S512x1 .i32) (harg6 : arg6.IsWhole)
    (arg7 : Memref sig .tc .smem S1x512 .i32) (harg7 : arg7.IsWhole) (arg8 : Memref sig .tc .vmem S22x256 .f32) (harg8 : arg8.IsWhole)
    (arg9 : Memref sig .tc .vmem S22x128 .f32) (harg9 : arg9.IsWhole) (arg10 : Memref sig .tc .vmem S22x128 .f32) (harg10 : arg10.IsWhole)
    (arg11 : Memref sig .tc .vmem S2x128 .f32) (harg11 : arg11.IsWhole) (arg12 : Memref sig .tc .vmem S2x128 .f32) (harg12 : arg12.IsWhole)
    (arg13 : Memref sig .tc .vmem S22x32 .f32) (harg13 : arg13.IsWhole) (arg14 : Memref sig .tc .vmem S2x32 .f32) (harg14 : arg14.IsWhole)
    (arg15 : Memref sig .tc .vmem S65x128 .f32) (harg15 : arg15.IsWhole) (arg16 : Memref sig .tc .vmem S5x128 .f32) (harg16 : arg16.IsWhole)
    (arg17 : Memref sig .tc .vmem S1x4x512x256 .f32) (harg17 : arg17.IsWhole) (arg18 : Memref sig .tc .vmem S1x32x512x128 .f32)
    (harg18 : arg18.IsWhole) (arg19 : Memref sig .tc .vmem S1x512x32 .f32) (harg19 : arg19.IsWhole) (arg20 : Memref sig .tc .vmem S1024x128 .f32)
    (harg20 : arg20.IsWhole) (arg21 : Memref sig .tc .vmem S512x128 .f32) (harg21 : arg21.IsWhole) (arg22 : Memref sig .tc .vmem S512x256 .f32)
    (harg22 : arg22.IsWhole) (arg23 : Memref sig .tc .vmem S1024x128 .f32) (harg23 : arg23.IsWhole)

set_option maxHeartbeats 4000000 in
/-- At the first point the body leaves its inputs as they are and fills the scratch arrays and the output blocks. -/
theorem run_first (hc0 : k0_cond1 i = 1#1)
    (x0 : Vec F S1x4x512x48 .f32) (x1 : Vec F S48x256 .f32) (x2 : Vec F S1x256 .f32) (x3 : Vec F S512x1 .i32) (x4 : Vec F S512x1 .i32)
    (x5 : Vec F S512x1 .i32) (x6 : Vec F S1x512 .i32) (x7 : Vec F S22x256 .f32) (x8 : Vec F S22x128 .f32) (x9 : Vec F S22x128 .f32)
    (x10 : Vec F S2x128 .f32) (x11 : Vec F S2x128 .f32) (x12 : Vec F S22x32 .f32) (x13 : Vec F S2x32 .f32) (x14 : Vec F S65x128 .f32)
    (x15 : Vec F S5x128 .f32)
    (hw : ∀ y, x6 y = 0#32 ∨ x6 y = 1#32) (E : Set ℕ) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗
      (∃ d, owns (c : Thread nD τ) arg17 fullShare d) ∗ (∃ d, owns (c : Thread nD τ) arg18 fullShare d) ∗ (∃ d, owns (c : Thread nD τ) arg19 fullShare d) ∗
      (∃ d, owns (c : Thread nD τ) arg20 fullShare d) ∗ (∃ d, owns (c : Thread nD τ) arg21 fullShare d) ∗ (∃ d, owns (c : Thread nD τ) arg22 fullShare d) ∗
      (∃ d, owns (c : Thread nD τ) arg23 fullShare d) ∗
      (iprop(owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗ owns (c : Thread nD τ) arg6 fullShare x5 ∗
        owns (c : Thread nD τ) arg7 fullShare x6 ∗ owns (c : Thread nD τ) arg8 fullShare x7 ∗ owns (c : Thread nD τ) arg9 fullShare x8 ∗
        owns (c : Thread nD τ) arg10 fullShare x9 ∗ owns (c : Thread nD τ) arg11 fullShare x10 ∗ owns (c : Thread nD τ) arg12 fullShare x11 ∗
        owns (c : Thread nD τ) arg13 fullShare x12 ∗ owns (c : Thread nD τ) arg14 fullShare x13 ∗ owns (c : Thread nD τ) arg15 fullShare x14 ∗
        owns (c : Thread nD τ) arg16 fullShare x15 ∗
        owns (c : Thread nD τ) arg17 fullShare (msaBlk x0 x1 (qScr x3 x7 x2)) ∗
        owns (c : Thread nD τ) arg18 fullShare (pairBlk i x6 (leftScr x3 x4 x5 x8 x10 x15) (rightScr x3 x4 x5 x9 x11 x15) (diagScr x14)) ∗
        owns (c : Thread nD τ) arg19 fullShare (stateBlk x3 x4 x12 x13) ∗
        owns (c : Thread nD τ) arg20 fullShare (leftScr x3 x4 x5 x8 x10 x15) ∗
        owns (c : Thread nD τ) arg21 fullShare (rightScr x3 x4 x5 x9 x11 x15) ∗
        owns (c : Thread nD τ) arg22 fullShare (qScr x3 x7 x2) ∗
        owns (c : Thread nD τ) arg23 fullShare (diagScr x14)) -∗ K ⟨⟩))
      ⊢ wp frame (wpE (defs₀ (F := F)) Variants.none c none) E
          (cc0__fused_kernel i
            arg1 harg1 arg2 harg2 arg3 harg3 arg4 harg4 arg5 harg5 arg6 harg6 arg7 harg7 arg8 harg8 arg9 harg9 arg10 harg10 arg11 harg11 arg12 harg12
            arg13 harg13 arg14 harg14 arg15 harg15 arg16 harg16 arg17 harg17 arg18 harg18 arg19 harg19 arg20 harg20 arg21 harg21 arg22 harg22 arg23
            harg23) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton,
      k0_part9_eq_skeleton, k0_part10_eq_skeleton, k0_part11_eq_skeleton, k0_part12_eq_skeleton, k0_part13_eq_skeleton, k0_part14_eq_skeleton,
      k0_part15_eq_skeleton, k0_part16_eq_skeleton, k0_part17_eq_skeleton, k0_part18_eq_skeleton, k0_part19_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩,
    ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hf9; obtain rfl := harg11.eq_unread hf10; obtain rfl := harg12.eq_unread hf11
  obtain rfl := harg13.eq_unread hf12; obtain rfl := harg14.eq_unread hf13; obtain rfl := harg15.eq_unread hf14; obtain rfl := harg16.eq_unread hf15
  sl_exec (disch := first | sl_exact hc0 | exact chk_of_word (word_read harg7 hw _ _))
  sl_step
  have h2 := fun inb => whole_load harg3 x2 inb
  have h3 := fun inb => whole_load harg4 x3 inb
  have h4 := fun inb => whole_load harg5 x4 inb
  have h5 := fun inb => whole_load harg6 x5 inb
  have h7 := fun inb => whole_load harg8 x7 inb
  have h8 := fun inb => whole_load harg9 x8 inb
  have h9 := fun inb => whole_load harg10 x9 inb
  have h10 := fun inb => whole_load harg11 x10 inb
  have h11 := fun inb => whole_load harg12 x11 inb
  have h12 := fun inb => whole_load harg13 x12 inb
  have h13 := fun inb => whole_load harg14 x13 inb
  have h14 := fun inb => whole_load harg15 x14 inb
  have e1 := load_eq harg16 x15 (Rect.unit (s := S5x128) ![1, 0] S1x128.size inb_S5x128_S1x128_1_0).toLoadRect
  have e2 := load_eq harg16 x15 (Rect.unit (s := S5x128) ![2, 0] S1x128.size inb_S5x128_S1x128_2_0).toLoadRect
  have e3 := load_eq harg16 x15 (Rect.unit (s := S5x128) ![3, 0] S1x128.size inb_S5x128_S1x128_3_0).toLoadRect
  have htop := leftTop_of (h3 inb_S512x1_S512x1_0_0) (h4 inb_S512x1_S512x1_0_0) (h5 inb_S512x1_S512x1_0_0) (h8 inb_S22x128_S22x128_0_0)
    (h10 inb_S2x128_S2x128_0_0) e2 e3
  have hbot := leftBot_of (h3 inb_S512x1_S512x1_0_0) (h4 inb_S512x1_S512x1_0_0) (h5 inb_S512x1_S512x1_0_0) (h8 inb_S22x128_S22x128_0_0)
    (h10 inb_S2x128_S2x128_0_0) e1 e2 e3
  have hright := right_of (h3 inb_S512x1_S512x1_0_0) (h4 inb_S512x1_S512x1_0_0) (h5 inb_S512x1_S512x1_0_0) (h9 inb_S22x128_S22x128_0_0)
    (h11 inb_S2x128_S2x128_0_0) e1 e2
  have hq := q_of (h3 inb_S512x1_S512x1_0_0) (h7 inb_S22x256_S22x256_0_0) (h2 inb_S1x256_S1x256_0_0)
  have hdiag := diag_of (h14 inb_S65x128_S65x128_0_0)
  have hstate := state_of (h3 inb_S512x1_S512x1_0_0) (h4 inb_S512x1_S512x1_0_0) (h12 inb_S22x32_S22x32_0_0) (h13 inb_S2x32_S2x32_0_0)
  have rL := fun f => read_left arg20 f inb_S1024x128_S512x128_512_0 inb_S1024x128_S512x128_0_0 hbot htop
  have rR := fun f => read_whole2 arg21 f inb_S512x128_S512x128_0_0 hright
  have rQ := fun f => read_whole2 arg22 f inb_S512x256_S512x256_0_0 hq
  have rD := fun f => read_whole2 arg23 f inb_S1024x128_S1024x128_0_0 hdiag
  have rS := fun f => read_whole3 arg19 f inb_S1x512x32_S1x512x32_0_0_0 hstate
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr
    swap; · iexact H16
    ipureintro
    funext y
    refine View.read_writes_apply_of_pieces _ _ (msaBlk x0 x1 (qScr x3 x7 x2)) _ ?_ y ?_
    swap
    · exact View.cover_of_tiledL (s := S1x4x512x256) _ ![1, 1, 512, 256] (by rfl) y
    repeat
      refine List.forall_mem_cons.2 ⟨fun x => ?_, ?_⟩
      · refine msaRow_eq _ (by decide) (by decide) x0 x1 (qScr x3 x7 x2) (slice_load harg1 x0 _ _ _ _)
          (whole_load harg2 x1 _) (whole_of_read (rQ _) _) rfl x
    exact fun p hp => absurd hp List.not_mem_nil
  isplitl [H17]
  · iexists _; isplitr
    swap; · iexact H17
    ipureintro
    funext y
    refine View.read_writes_apply_of_pieces _ _ (pairBlk i x6 (leftScr x3 x4 x5 x8 x10 x15) (rightScr x3 x4 x5 x9 x11 x15) (diagScr x14)) _ ?_ y ?_
    swap
    · exact View.cover_of_tiledL (s := S1x32x512x128) _ ![1, 1, 512, 128] (by rfl) y
    repeat
      refine List.forall_mem_cons.2 ⟨fun x => ?_, ?_⟩
      · refine pairRow_eq _ _ _ _ (by decide +kernel) (by decide +kernel) (by decide +kernel) i _ _ _ (by decide) hw (leftScr x3 x4 x5 x8 x10 x15) (rightScr x3 x4 x5 x9 x11 x15) (diagScr x14)
          _ (harg7.readAt_unread x6 _ _) _ (load_of_read (rL _) _) (load_of_read (rD _) _)
          (load_of_read (rR _) _) x
    exact fun p hp => absurd hp List.not_mem_nil
  isplitl [H18]
  · iexists _; isplitr
    swap; · iexact H18
    ipureintro; exact rS _
  isplitl [H19]
  · iexists _; isplitr
    swap; · iexact H19
    ipureintro; exact rL _
  isplitl [H20]
  · iexists _; isplitr
    swap; · iexact H20
    ipureintro; exact rR _
  isplitl [H21]
  · iexists _; isplitr
    swap; · iexact H21
    ipureintro; exact rQ _
  iexists _; isplitr
  swap; · iexact H22
  ipureintro; exact rD _

end Cert.KernelIdeal.Fused

end
-- ==== Proof.KernelIdeal.RunLater.lean ====
/- One run of the kernel's body at a grid point after the first, on staging buffers and scratch arrays that hold known values. -/
module

public import proofs.«01_k».proof.Proof.KernelIdeal.Blocks

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise
open Cert.KernelIdeal Cert.KernelIdeal.Gen

variable {F : FTy → Type} [FloatOps F]

local notation "𝕄" => MT nD τ sig Unit (Elt F) ℕ (UR sig nD τ) ℕ

variable (c : Dev nD) (i : grid0.Coords)
variable
    (arg1 : Memref sig .tc .vmem S1x4x512x48 .f32) (harg1 : arg1.IsWhole) (arg2 : Memref sig .tc .vmem S48x256 .f32) (harg2 : arg2.IsWhole)
    (arg3 : Memref sig .tc .vmem S1x256 .f32) (harg3 : arg3.IsWhole) (arg4 : Memref sig .tc .vmem S512x1 .i32) (harg4 : arg4.IsWhole)
    (arg5 : Memref sig .tc .vmem S512x1 .i32) (harg5 : arg5.IsWhole) (arg6 : Memref sig .tc .vmem S512x1 .i32) (harg6 : arg6.IsWhole)
    (arg7 : Memref sig .tc .smem S1x512 .i32) (harg7 : arg7.IsWhole) (arg8 : Memref sig .tc .vmem S22x256 .f32) (harg8 : arg8.IsWhole)
    (arg9 : Memref sig .tc .vmem S22x128 .f32) (harg9 : arg9.IsWhole) (arg10 : Memref sig .tc .vmem S22x128 .f32) (harg10 : arg10.IsWhole)
    (arg11 : Memref sig .tc .vmem S2x128 .f32) (harg11 : arg11.IsWhole) (arg12 : Memref sig .tc .vmem S2x128 .f32) (harg12 : arg12.IsWhole)
    (arg13 : Memref sig .tc .vmem S22x32 .f32) (harg13 : arg13.IsWhole) (arg14 : Memref sig .tc .vmem S2x32 .f32) (harg14 : arg14.IsWhole)
    (arg15 : Memref sig .tc .vmem S65x128 .f32) (harg15 : arg15.IsWhole) (arg16 : Memref sig .tc .vmem S5x128 .f32) (harg16 : arg16.IsWhole)
    (arg17 : Memref sig .tc .vmem S1x4x512x256 .f32) (harg17 : arg17.IsWhole) (arg18 : Memref sig .tc .vmem S1x32x512x128 .f32)
    (harg18 : arg18.IsWhole) (arg19 : Memref sig .tc .vmem S1x512x32 .f32) (harg19 : arg19.IsWhole) (arg20 : Memref sig .tc .vmem S1024x128 .f32)
    (harg20 : arg20.IsWhole) (arg21 : Memref sig .tc .vmem S512x128 .f32) (harg21 : arg21.IsWhole) (arg22 : Memref sig .tc .vmem S512x256 .f32)
    (harg22 : arg22.IsWhole) (arg23 : Memref sig .tc .vmem S1024x128 .f32) (harg23 : arg23.IsWhole)

set_option maxHeartbeats 4000000 in
/-- At a point after the first the body leaves its inputs and scratch arrays as they are. -/
theorem run_later (hc0 : ¬ k0_cond1 i = 1#1) (x0 : Vec F S1x4x512x48 .f32) (x1 : Vec F S48x256 .f32) (x6 : Vec F S1x512 .i32)
    (hw : ∀ y, x6 y = 0#32 ∨ x6 y = 1#32)
    (L : Vec F S1024x128 .f32) (R : Vec F S512x128 .f32) (Q : Vec F S512x256 .f32) (D : Vec F S1024x128 .f32)
    (E : Set ℕ) (K : PUnit → sProp 𝕄) :
    iprop(owns (c : Thread nD τ) arg1 fullShare x0 ∗ owns (c : Thread nD τ) arg2 fullShare x1 ∗ owns (c : Thread nD τ) arg7 fullShare x6
      ∗ (∃ d, owns (c : Thread nD τ) arg17 fullShare d) ∗ (∃ d, owns (c : Thread nD τ) arg18 fullShare d)
      ∗ owns (c : Thread nD τ) arg20 fullShare L ∗ owns (c : Thread nD τ) arg21 fullShare R
      ∗ owns (c : Thread nD τ) arg22 fullShare Q ∗ owns (c : Thread nD τ) arg23 fullShare D
      ∗ (iprop(owns (c : Thread nD τ) arg1 fullShare x0 ∗ owns (c : Thread nD τ) arg2 fullShare x1 ∗ owns (c : Thread nD τ) arg7 fullShare x6
        ∗ owns (c : Thread nD τ) arg17 fullShare (msaBlk x0 x1 Q) ∗ owns (c : Thread nD τ) arg18 fullShare (pairBlk i x6 L R D)
        ∗ owns (c : Thread nD τ) arg20 fullShare L ∗ owns (c : Thread nD τ) arg21 fullShare R
        ∗ owns (c : Thread nD τ) arg22 fullShare Q ∗ owns (c : Thread nD τ) arg23 fullShare D) -∗ K ⟨⟩))
      ⊢ wp frame (wpE (defs₀ (F := F)) Variants.none c none) E
          (cc0__fused_kernel i
            arg1 harg1 arg2 harg2 arg3 harg3 arg4 harg4 arg5 harg5 arg6 harg6 arg7 harg7 arg8 harg8 arg9 harg9 arg10 harg10 arg11 harg11 arg12 harg12
            arg13 harg13 arg14 harg14 arg15 harg15 arg16 harg16 arg17 harg17 arg18 harg18 arg19 harg19 arg20 harg20 arg21 harg21 arg22 harg22 arg23
            harg23) K := by
  simp only [cc0__fused_kernel_eq_skeleton]; unfold cc0__fused_kernel_skel
  simp only [k0_part3_eq_skeleton, k0_part4_eq_skeleton, k0_part5_eq_skeleton, k0_part6_eq_skeleton, k0_part7_eq_skeleton, k0_part8_eq_skeleton,
      k0_part9_eq_skeleton, k0_part10_eq_skeleton, k0_part11_eq_skeleton, k0_part12_eq_skeleton, k0_part13_eq_skeleton, k0_part14_eq_skeleton,
      k0_part15_eq_skeleton, k0_part16_eq_skeleton, k0_part17_eq_skeleton, k0_part18_eq_skeleton, k0_part19_eq_skeleton]
  unfold owns
  iintro ⟨⟨%f0, %hf0, H0⟩, ⟨%f1, %hf1, H1⟩, ⟨%f6, %hf6, H6⟩, ⟨%d16, %f16, -, H16⟩, ⟨%d17, %f17, -, H17⟩,
    ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg7.eq_unread hf6
  obtain rfl := harg20.eq_unread hfs0; obtain rfl := harg21.eq_unread hfs1
  obtain rfl := harg22.eq_unread hfs2; obtain rfl := harg23.eq_unread hfs3
  sl_exec (disch := first | sl_exact hc0 | exact chk_of_word (word_read harg7 hw _ _))
  sl_step
  iapply Hk
  isplitl [H0]
  · iexists _; isplitr; · ipureintro; exact harg1.read_unread _
    iexact H0
  isplitl [H1]
  · iexists _; isplitr; · ipureintro; exact harg2.read_unread _
    iexact H1
  isplitl [H6]
  · iexists _; isplitr; · ipureintro; exact harg7.read_unread _
    iexact H6
  isplitl [H16]
  · iexists _; isplitr
    swap; · iexact H16
    ipureintro
    funext y
    refine View.read_writes_apply_of_pieces _ _ (msaBlk x0 x1 Q) _ ?_ y ?_
    swap
    · exact View.cover_of_tiledL (s := S1x4x512x256) _ ![1, 1, 512, 256] (by rfl) y
    repeat
      refine List.forall_mem_cons.2 ⟨fun x => ?_, ?_⟩
      · refine msaRow_eq _ (by decide) (by decide) x0 x1 Q (slice_load harg1 x0 _ _ _ _)
          (whole_load harg2 x1 _) (whole_load harg22 Q _) rfl x
    exact fun p hp => absurd hp List.not_mem_nil
  isplitl [H17]
  · iexists _; isplitr
    swap; · iexact H17
    ipureintro
    funext y
    refine View.read_writes_apply_of_pieces _ _ (pairBlk i x6 L R D) _ ?_ y ?_
    swap
    · exact View.cover_of_tiledL (s := S1x32x512x128) _ ![1, 1, 512, 128] (by rfl) y
    repeat
      refine List.forall_mem_cons.2 ⟨fun x => ?_, ?_⟩
      · refine pairRow_eq _ _ _ _ (by decide +kernel) (by decide +kernel) (by decide +kernel) i _ _ _ (by decide) hw L R D
          _ (harg7.readAt_unread x6 _ _) _ (load_eq harg20 L _) (load_eq harg23 D _)
          (load_eq harg21 R _) x
    exact fun p hp => absurd hp List.not_mem_nil
  isplitl [HS0]
  · iexists _; isplitr; · ipureintro; exact harg20.read_unread _
    iexact HS0
  isplitl [HS1]
  · iexists _; isplitr; · ipureintro; exact harg21.read_unread _
    iexact HS1
  isplitl [HS2]
  · iexists _; isplitr; · ipureintro; exact harg22.read_unread _
    iexact HS2
  iexists _; isplitr; · ipureintro; exact harg23.read_unread _
  iexact HS3

end Cert.KernelIdeal.Fused

end
-- ==== Proof.KernelIdeal.Run.lean ====
/- The launch on one core: what each window's buffer holds after each grid point, the body at every grid point, the whole run. -/
module

public import proofs.«01_k».proof.Proof.KernelIdeal.RunFirst
public import proofs.«01_k».proof.Proof.KernelIdeal.RunLater
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise
open Cert.KernelIdeal Cert.KernelIdeal.Gen

open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body fills its scratch arrays at the first grid point and at no other. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The first grid point. -/
def pt0 : Fin cfg0.N := t0_0

/-- The four scratch arrays and the state block, from the inputs' blocks at the first grid point. -/
def scL (c : Dev nD) : Vec F S1024x128 .f32 :=
  leftScr (iblk m c 3 pt0) (iblk m c 4 pt0) (iblk m c 5 pt0) (iblk m c 8 pt0) (iblk m c 10 pt0) (iblk m c 15 pt0)
/-- The right table. -/
def scR (c : Dev nD) : Vec F S512x128 .f32 :=
  rightScr (iblk m c 3 pt0) (iblk m c 4 pt0) (iblk m c 5 pt0) (iblk m c 9 pt0) (iblk m c 11 pt0) (iblk m c 15 pt0)
/-- The MSA row table. -/
def scQ (c : Dev nD) : Vec F S512x256 .f32 := qScr (iblk m c 3 pt0) (iblk m c 7 pt0) (iblk m c 2 pt0)
/-- The diagonal table. -/
def scD (c : Dev nD) : Vec F S1024x128 .f32 := diagScr (iblk m c 14 pt0)
/-- The state block. -/
def stB (c : Dev nD) : Vec F S1x512x32 .f32 := stateBlk (iblk m c 3 pt0) (iblk m c 4 pt0) (iblk m c 12 pt0) (iblk m c 13 pt0)

/-- Every chain word the body reads is 0 or 1. -/
def Words : Prop := ∀ (c : Dev nD) (t : Fin cfg0.N) (y : S1x512.Idx), (iblk m c 6 t : Vec F S1x512 .i32) y = 0#32 ∨ (iblk m c 6 t : Vec F S1x512 .i32) y = 1#32

/-- Window 0's buffer at a grid point. -/
abbrev ms0 (t : Fin cfg0.N) : Memref sig .tc .vmem S1x4x512x48 .f32 := win0_0.stage (cfg0.slots t 0)
/-- Window 1's buffer at a grid point. -/
abbrev ms1 (t : Fin cfg0.N) : Memref sig .tc .vmem S48x256 .f32 := win0_1.stage (cfg0.slots t 1)
/-- Window 2's buffer at a grid point. -/
abbrev ms2 (t : Fin cfg0.N) : Memref sig .tc .vmem S1x256 .f32 := win0_2.stage (cfg0.slots t 2)
/-- Window 3's buffer at a grid point. -/
abbrev ms3 (t : Fin cfg0.N) : Memref sig .tc .vmem S512x1 .i32 := win0_3.stage (cfg0.slots t 3)
/-- Window 4's buffer at a grid point. -/
abbrev ms4 (t : Fin cfg0.N) : Memref sig .tc .vmem S512x1 .i32 := win0_4.stage (cfg0.slots t 4)
/-- Window 5's buffer at a grid point. -/
abbrev ms5 (t : Fin cfg0.N) : Memref sig .tc .vmem S512x1 .i32 := win0_5.stage (cfg0.slots t 5)
/-- Window 6's buffer at a grid point. -/
abbrev ms6 (t : Fin cfg0.N) : Memref sig .tc .smem S1x512 .i32 := win0_6.stage (cfg0.slots t 6)
/-- Window 7's buffer at a grid point. -/
abbrev ms7 (t : Fin cfg0.N) : Memref sig .tc .vmem S22x256 .f32 := win0_7.stage (cfg0.slots t 7)
/-- Window 8's buffer at a grid point. -/
abbrev ms8 (t : Fin cfg0.N) : Memref sig .tc .vmem S22x128 .f32 := win0_8.stage (cfg0.slots t 8)
/-- Window 9's buffer at a grid point. -/
abbrev ms9 (t : Fin cfg0.N) : Memref sig .tc .vmem S22x128 .f32 := win0_9.stage (cfg0.slots t 9)
/-- Window 10's buffer at a grid point. -/
abbrev ms10 (t : Fin cfg0.N) : Memref sig .tc .vmem S2x128 .f32 := win0_10.stage (cfg0.slots t 10)
/-- Window 11's buffer at a grid point. -/
abbrev ms11 (t : Fin cfg0.N) : Memref sig .tc .vmem S2x128 .f32 := win0_11.stage (cfg0.slots t 11)
/-- Window 12's buffer at a grid point. -/
abbrev ms12 (t : Fin cfg0.N) : Memref sig .tc .vmem S22x32 .f32 := win0_12.stage (cfg0.slots t 12)
/-- Window 13's buffer at a grid point. -/
abbrev ms13 (t : Fin cfg0.N) : Memref sig .tc .vmem S2x32 .f32 := win0_13.stage (cfg0.slots t 13)
/-- Window 14's buffer at a grid point. -/
abbrev ms14 (t : Fin cfg0.N) : Memref sig .tc .vmem S65x128 .f32 := win0_14.stage (cfg0.slots t 14)
/-- Window 15's buffer at a grid point. -/
abbrev ms15 (t : Fin cfg0.N) : Memref sig .tc .vmem S5x128 .f32 := win0_15.stage (cfg0.slots t 15)
/-- Window 16's buffer at a grid point. -/
abbrev ms16 (t : Fin cfg0.N) : Memref sig .tc .vmem S1x4x512x256 .f32 := win0_16.stage (cfg0.slots t 16)
/-- Window 17's buffer at a grid point. -/
abbrev ms17 (t : Fin cfg0.N) : Memref sig .tc .vmem S1x32x512x128 .f32 := win0_17.stage (cfg0.slots t 17)
/-- Window 18's buffer at a grid point. -/
abbrev ms18 (t : Fin cfg0.N) : Memref sig .tc .vmem S1x512x32 .f32 := win0_18.stage (cfg0.slots t 18)
/-- Scratch array 0. -/
abbrev sc0 : Memref sig .tc .vmem S1024x128 .f32 := Memref.whole cc0_scratch0
/-- Scratch array 1. -/
abbrev sc1 : Memref sig .tc .vmem S512x128 .f32 := Memref.whole cc0_scratch1
/-- Scratch array 2. -/
abbrev sc2 : Memref sig .tc .vmem S512x256 .f32 := Memref.whole cc0_scratch2
/-- Scratch array 3. -/
abbrev sc3 : Memref sig .tc .vmem S1024x128 .f32 := Memref.whole cc0_scratch3

/-- What the launch hands over: the scratch arrays at any contents, and the generator's register. -/
theorem handed_eq (c : Dev nD) : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d))
        ∗ (∃ r, prngReg c r)) := by
  unfold Pipeline.ΦA; rw [scopedRest0_eq]; simp only [sc0, sc1, sc2, sc3, owns_whole]; try rfl

/-- What is kept between grid points: before the first, anything in the scratch arrays; afterwards their four tables. -/
def kept (c : Dev nD) : ℕ → sProp 𝕄
  | 0 => Pipeline.ΦA spec0 c
  | _ + 1 => iprop(iprop(owns (c : Thread nD τ) sc0 fullShare (scL m c) ∗ owns (c : Thread nD τ) sc1 fullShare (scR m c) ∗ owns (c : Thread nD τ) sc2 fullShare (scQ m c) ∗ owns (c : Thread nD τ) sc3 fullShare (scD m c))
      ∗ (∃ r, prngReg c r))

theorem kept_pos (c : Dev nD) (n : ℕ) (h : n ≠ 0) : kept m c n
    = iprop(iprop(owns (c : Thread nD τ) sc0 fullShare (scL m c) ∗ owns (c : Thread nD τ) sc1 fullShare (scR m c) ∗ owns (c : Thread nD τ) sc2 fullShare (scQ m c) ∗ owns (c : Thread nD τ) sc3 fullShare (scD m c))
        ∗ (∃ r, prngReg c r)) := by
  cases n with
  | zero => exact absurd rfl h
  | succ n => rfl

/-- What every window's buffer holds after the body at a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => msaBlk (iblk m c 0 t) (iblk m c 1 t) (scQ m c)
    | ⟨17, _⟩ => pairBlk (grid0.coords t) (iblk m c 6 t) (scL m c) (scR m c) (scD m c)
    | ⟨18, _⟩ => stB m c
    | ⟨_ + 19, h⟩ => absurd h (Nat.not_lt.2 (Nat.le_add_left _ _))
  Φ t := kept m c t.val
  q _ := fullShare
  owed _ := 0

/-- The arrays are as the launch finds them. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = msaBlk (iblk m c 0 t) (iblk m c 1 t) (scQ m c) := by dsimp only [dats]
theorem after17 (c : Dev nD) (t : Fin cfg0.N) : (dats m 0 c).after 17 t = pairBlk (grid0.coords t) (iblk m c 6 t) (scL m c) (scR m c) (scD m c) := by dsimp only [dats]
theorem after18 (c : Dev nD) (t : Fin cfg0.N) : (dats m 0 c).after 18 t = stB m c := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d

/-- The state window is stored at the first grid point. -/
theorem stored18 (t : Fin cfg0.N) (ht : t.val = 0) : cfg0.idle 18 (cfg0.grid.coords t) = false := by
  show (!(k0_cond1 (grid0.coords t) == 1#1)) = false
  rw [(first_iff t).2 ht]; rfl

/-- After the first grid point the state window's buffer still holds the state block. -/
theorem before18 (c : Dev nD) (d) : ∀ (n : ℕ) (h : n + 1 < cfg0.N), (dats m 0 c).before 18 ⟨n + 1, h⟩ d = stB m c := by
  intro n
  induction n with
  | zero =>
    intro h
    have hfl : (cfg0.win 18).flush ⟨0, Nat.lt_of_succ_lt h⟩ = false := Bool.eq_false_iff.2 fun hh => by
      have h0 : 0 % 16 = 15 := (flush0_18 _).1 hh
      omega
    have e := (dats m 0 c).before_of_pos 18 ⟨0 + 1, h⟩ (Nat.succ_ne_zero 0) ((cfg0.win 18).fetch_out rfl _) d
    refine e.trans ?_
    rw [show (cfg0.win 18).flush ⟨(⟨0 + 1, h⟩ : Fin cfg0.N).val - 1, Nat.lt_of_le_of_lt (Nat.sub_le _ _) h⟩ = false from hfl,
      if_neg Bool.false_ne_true]
    unfold Dat.left
    rw [stored18 _ rfl]
    show (dats m 0 c).kept 18 ⟨0, _⟩ d = stB m c
    unfold Dat.kept
    rw [Pipeline.fill_of_clip_none 18 _ (fun _ => rfl) d ((dats m 0 c).after 18 ⟨0, Nat.lt_of_succ_lt h⟩), Pipeline.Window.fill_cut, after18]
  | succ n ih =>
    intro h
    have hN : cfg0.N = 16 := N_0
    have hfl : (cfg0.win 18).flush ⟨n + 1, Nat.lt_of_succ_lt h⟩ = false := Bool.eq_false_iff.2 fun hh => by
      have h0 : (n + 1) % 16 = 15 := (flush0_18 _).1 hh
      omega
    have e := (dats m 0 c).before_of_pos 18 ⟨n + 1 + 1, h⟩ (Nat.succ_ne_zero _) ((cfg0.win 18).fetch_out rfl _) d
    refine e.trans ?_
    rw [show (cfg0.win 18).flush ⟨(⟨n + 1 + 1, h⟩ : Fin cfg0.N).val - 1, Nat.lt_of_le_of_lt (Nat.sub_le _ _) h⟩ = false from hfl,
      if_neg Bool.false_ne_true]
    have hi : cfg0.idle 18 (cfg0.grid.coords ⟨n + 1, Nat.lt_of_succ_lt h⟩) = true := by
      show (!(k0_cond1 (grid0.coords _) == 1#1)) = true
      rw [Bool.not_eq_true', beq_eq_false_iff_ne]
      exact fun hh => absurd ((first_iff _).1 hh) (Nat.succ_ne_zero n)
    unfold Dat.left
    rw [show cfg0.idle 18 (cfg0.grid.coords ⟨(⟨n + 1 + 1, h⟩ : Fin cfg0.N).val - 1, Nat.lt_of_le_of_lt (Nat.sub_le _ _) h⟩) = true from hi]
    exact ih (Nat.lt_of_succ_lt h)

/-- At a point where the state window is stored its buffer is handed back as stored. -/
theorem back_stored (c : Dev nD) (t : Fin cfg0.N) (ht : t.val = 0) :
    (owns (c : Thread nD τ) (ms18 t) fullShare (stB m c) : sProp 𝕄) ⊢ (dats m 0 c).leavesExact 18 t := by
  unfold Dat.leavesExact
  rw [stored18 t ht, after18]

/-- At the other points it is handed back as it was found. -/
theorem back_kept (c : Dev nD) (t : Fin cfg0.N) (ht : t.val ≠ 0) :
    (owns (c : Thread nD τ) (ms18 t) fullShare (stB m c) : sProp 𝕄) ⊢ (dats m 0 c).leavesExact 18 t := by
  have hb : ∀ d, (dats m 0 c).before 18 t d = stB m c := fun d => by
    obtain ⟨n, hn⟩ := t
    cases n with
    | zero => exact absurd rfl ht
    | succ n => exact before18 m c d n hn
  unfold Dat.leavesExact
  cases cfg0.idle 18 (cfg0.grid.coords t)
  · rw [after18]
  · cases (cfg0.win 18).flush t
    · simp only [hb]
      iintro H
      iexists stB m c
      iexact H
    · rw [after18]

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ owns (c : Thread nD τ) (ms17 t) fullShare ((dats m 0 c).after 17 t)
    ∗ (dats m 0 c).leavesExact 18 t)

set_option maxHeartbeats 4000000 in
/-- The body at every grid point takes what it is called with to what it returns. -/
theorem body_at (hw : Words m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).owesAt () t.succ = (dats m 0 c).owesAt () t.castSucc from rfl,
    show (dats m 0 c).Φ t.castSucc = kept m c t.val from rfl, show (dats m 0 c).Φ t.succ = kept m c (t.val + 1) from rfl,
    kept_pos m c (t.val + 1) (Nat.succ_ne_zero _), after0, after1, after2, after3, after4, after5, after6, after7, after8, after9, after10, after11, after12, after13, after14, after15, after16, after17]
  by_cases hz : t.val = 0
  · obtain rfl : t = pt0 := Fin.ext hz
    rw [show kept m c pt0.val = Pipeline.ΦA spec0 c from rfl, handed_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply run_first c (grid0.coords pt0) _ _ _ _ _ _ _ _ _ _ _ _ _ _ _ _ _ _ _ _ _ _ _ _ _ _ _ _ _ _ _ _ _ _ _ _ _ _ _ _ _ _ _ _ _ _ ((first_iff pt0).2 rfl) (iblk m c 0 pt0) (iblk m c 1 pt0) (iblk m c 2 pt0) (iblk m c 3 pt0) (iblk m c 4 pt0) (iblk m c 5 pt0) (iblk m c 6 pt0) (iblk m c 7 pt0) (iblk m c 8 pt0) (iblk m c 9 pt0) (iblk m c 10 pt0) (iblk m c 11 pt0) (iblk m c 12 pt0) (iblk m c 13 pt0) (iblk m c 14 pt0) (iblk m c 15 pt0) (hw c pt0) Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iapply back_stored m c pt0 rfl; iexact H18
  · rw [kept_pos m c t.val hz]
    have hb : ∀ d, (dats m 0 c).before 18 t d = stB m c := fun d => by
      obtain ⟨n, hn⟩ := t
      cases n with
      | zero => exact absurd rfl hz
      | succ n => exact before18 m c d n hn
    simp only [hb]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply run_later c (grid0.coords t) _ _ _ _ _ _ _ _ _ _ _ _ _ _ _ _ _ _ _ _ _ _ _ _ _ _ _ _ _ _ _ _ _ _ _ _ _ _ _ _ _ _ _ _ _ _ (fun h => hz ((first_iff t).1 h)) (iblk m c 0 t) (iblk m c 1 t) (iblk m c 6 t) (hw c t)
      (scL m c) (scR m c) (scQ m c) (scD m c) Set.univ _
    isplitl [H0]; · iexact H0
    isplitl [H1]; · iexact H1
    isplitl [H6]; · iexact H6
    isplitl [H16]; · iexists _; iexact H16
    isplitl [H17]; · iexists _; iexact H17
    isplitl [HS0]; · iexact HS0
    isplitl [HS1]; · iexact HS1
    isplitl [HS2]; · iexact HS2
    isplitl [HS3]; · iexact HS3
    iintro ⟨H0, H1, H6, H16, H17, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iapply back_kept m c t hz; iexact H18

/-- The body's row of the table of procedures is the body. -/
theorem defs_row (t : Fin cfg0.N) : defs₀ (F := F) .tc cfg0.body (cfg0.bodyArgs t (cfg0.slots t)) = bodyAt0 t := by
  unfold defs₀; rw [Defs.onTc_tc]

/-- The body meets the pipeline's obligation at every grid point. -/
theorem obligation (hw : Words m) (c : Dev nD) : BodyObligation (dats (F := F) m 0 c) (defs₀ (F := F)) Variants.none () Set.univ := fun t => by
  rw [bigSep_W0, bigSep_W0, defs_row]
  exact triple_restated (body_at m hw c t) rfl .rfl fun _ => .rfl

/-- What the launch hands over is what is kept before the first grid point. -/
theorem kept_in (c : Dev nD) : Pipeline.ΦA spec0 c ⊢ (dats m 0 c).Φ 0 := Idealize.SL.BI.Entails.refl _

/-- What is kept after the last grid point is what the launch takes back. -/
theorem kept_out (c : Dev nD) : (dats m 0 c).Φ (Fin.last cfg0.N) ⊢ Pipeline.ΦA spec0 c := by
  rw [show (dats m 0 c).Φ (Fin.last cfg0.N) = kept m c (Fin.last cfg0.N).val from rfl,
    kept_pos m c _ (by rw [Fin.val_last]; have : cfg0.N = 16 := N_0; omega), handed_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

-- the run theorem's implicit arguments are found by unfolding plain definitions in a metavariable's type
set_option backward.isDefEq.respectTransparency.types false in
/-- The whole run, if every chain word is 0 or 1: it ends with every array at what the grid points leave in it and every semaphore at 0. -/
theorem run_quiescent (hw : Words m) : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m hw c).loose) (hshare := fun c => (dats m 0 c).share_full fun _ => rfl)
    (howed := fun _ _ => rfl) (V := V m) (hmain := hmain m Variants.none) (hA := A_eq m) (hin := kept_in m) (hout := kept_out m)

/-- The same without the semaphores. -/
theorem run_arrays (hw : Words m) : θ_run defs (onTc (τ := τ) (main (F := F))) (s₀ m ρ) (Pipeline.FramePost cfgs (dats m) 0 (V m)) :=
  (θ_run defs _ _).mono (fun _ h => h.1) (run_quiescent m ρ hw)

/-- The kernel's arguments end as they were, and every semaphore ends at 0, if every chain word is 0 or 1. -/
theorem frame_words (hw : Words m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) (run_arrays m ρ hw)) ((θ_run defs _ _).mono (fun _ h => h.2) (run_quiescent m ρ hw))

end Cert.KernelIdeal.Fused

end
-- ==== Proof.KernelIdeal.Frame.lean ====
/- What the body needs of the chain indices, from a bound on the argument array. -/
module

public import proofs.«01_k».proof.Proof.KernelIdeal.Run
public import proofs.«01_k».proof.Proof.Pre

@[expose] public section

noncomputable section

namespace Cert.KernelIdeal.Fused

open Idealize.ShloMosaic Idealize.ShloMosaic.TcCoe Cert.KernelIdeal Cert.KernelIdeal.Gen

variable {F : FTy → Type} [FloatOps F] (m : (ℓ : Loc nD τ sig) → Buf (Elt F) ℓ)

/-- If every chain index is 0 or 1, every chain word that the body reads is. -/
theorem words_of (h : ∀ (c : Dev nD) (y : S1x512.Idx), (m ((c.tc : Thread nD τ).loc main_arg3) : IVec S1x512 32) y = 0#32
      ∨ (m ((c.tc : Thread nD τ).loc main_arg3) : IVec S1x512 32) y = 1#32) : Words m := by
  intro c t y
  have e : (iblk m c 6 t : IVec S1x512 32) y = (V m c main_arg3 : IVec S1x512 32) (((cfg0.win 6).blk t).view.emb y) := rfl
  rw [e, V_main_arg3]
  exact h c _

end Cert.KernelIdeal.Fused

end
-- ==== Proof.Frames.lean ====
/- The frames: each program terminates without a fault, leaves its arguments as they were and every semaphore at 0. -/
module

public import proofs.«01_k».proof.Proof.Kernel.Frame
public import proofs.«01_k».proof.Proof.KernelIdeal.Frame
public import proofs.«01_k».proof.Proof.Gen.ReferenceIdeal
public import proofs.«01_k».proof.Proof.Gen.ReferenceIdeal.Run
public import Idealize.ShloMosaic.Lib.Quiescent

@[expose] public section

noncomputable section

namespace Cert.Drawn

open Idealize.ShloMosaic Idealize.ShloMosaic.TcCoe Idealize.SL.Sem

/-- The kernel's frame, at the machine's words. -/
theorem frame_k : Cert.quiescent_Kernel (hKernel := Cert.Kernel.Gen.facts) (hPre_chains_in_range := Cert.Pre_chains_in_range.Gen.facts) := fun m g h =>
  Cert.Kernel.Fused.frame_words (F := Bits) m g (Cert.Kernel.Fused.words_of m fun c y => chain_word _ _ _ _ (h c) y)

/-- The kernel's frame, at extended reals. -/
theorem frame_i : Cert.quiescent_KernelIdeal (hKernelIdeal := Cert.KernelIdeal.Gen.facts) (hPre_chains_in_range := Cert.Pre_chains_in_range.Gen.facts) := fun m g h =>
  Cert.KernelIdeal.Fused.frame_words (F := Ideal) m g (Cert.KernelIdeal.Fused.words_of m fun c y => chain_word _ _ _ _ (h c) y)

/-- The kernel's frame, at extended reals, on the inputs that the value claim is about. -/
theorem frame_i_drawn : Cert.quiescent_KernelIdeal_pre_inputs_as_drawn (hKernelIdeal := Cert.KernelIdeal.Gen.facts) (hPre_inputs_as_drawn := Cert.Pre_inputs_as_drawn.Gen.facts) := fun m g h =>
  Cert.KernelIdeal.Fused.frame_words (F := Ideal) m g (Cert.KernelIdeal.Fused.words_of m fun c y => (drawn _ _ _ _ (h c)).chain y)

/-- The reference's frame: its run leaves the arguments, and it has no semaphore. -/
theorem frame_r : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The reference's frame on the inputs that the value claim is about. -/
theorem frame_r_drawn : Cert.quiescent_ReferenceIdeal_pre_inputs_as_drawn (hReferenceIdeal := Cert.ReferenceIdeal.Gen.facts) (hPre_inputs_as_drawn := Cert.Pre_inputs_as_drawn.Gen.facts) :=
  fun m g _ => frame_r m g trivial

end Cert.Drawn

end
-- ==== Proof.Spec.lean ====
/- The three results as functions of the argument arrays, and the arithmetic of extended reals that the two programs' ways
   of computing them differ by. -/
module

public import Idealize.ShloMosaic.Lib.Pointwise
public import Idealize.ShloMosaic.Lib.MatmulPlain
public import Idealize.ShloMosaic.PureOps.Ideal.Laws

@[expose] public section

noncomputable section

namespace Cert.Drawn

open Idealize.ShloMosaic Idealize.ShloMosaic.Pointwise

/-- A matrix of extended reals. -/
abbrev Mat (a b : ℕ) : Type := (⟨2, ![a, b]⟩ : Shape).Idx → EReal

/-- One word for each residue. -/
abbrev Words512 : Type := (⟨2, ![1, 512]⟩ : Shape).Idx → BitVec 32

/-- An index of an array with one leading unit axis, by its coordinates. -/
theorem unit4 {a b d : ℕ} (y : (⟨4, ![1, a, b, d]⟩ : Shape).Idx) : y = ix4 (n0 := 1) (n1 := a) (n2 := b) (n3 := d) 0 (y 1) (y 2) (y 3) := by
  funext k
  fin_cases k
  · exact Subsingleton.elim (α := Fin 1) _ _
  all_goals rfl

theorem unit3 {a b : ℕ} (y : (⟨3, ![1, a, b]⟩ : Shape).Idx) : y = ix3 (n0 := 1) (n1 := a) (n2 := b) 0 (y 1) (y 2) := by
  funext k
  fin_cases k
  · exact Subsingleton.elim (α := Fin 1) _ _
  all_goals rfl

/-- The row of a table that a word names. -/
def pick {K N : ℕ} [NeZero K] (T : Mat K N) (w : BitVec 32) (d : Fin N) : EReal := T (ix2 (Fin.ofNat K w.toNat) d)

/-- The row of the relative-position table for row `i` and column `j`: `j - i + 32`, clipped to `[0, 64]`. -/
def posRow (i j : ℕ) : Fin 65 := ⟨min (j + 32 - i) 64, by omega⟩

/-- The row of the chain-separation table for a row of chain `a` and a column of chain `b`. -/
def chainRow (a b : BitVec 32) : Fin 5 := ⟨min (2 + b.toNat - a.toNat) 4, by omega⟩

/-- The MSA embedding: the sequence's residue features times the weights, plus the bias, plus the query embedding of the residue. -/
def msaOut (msa : (⟨4, ![1, 64, 512, 48]⟩ : Shape).Idx → EReal) (seq : Words512) (W : Mat 48 256) (b : (⟨1, ![256]⟩ : Shape).Idx → EReal)
    (qw : Mat 22 256) (n : Fin 64) (l : Fin 512) (d : Fin 256) : EReal :=
  (∑ k : Fin 48, msa (ix4 0 n l k) * W (ix2 k d)) + (pick qw (seq (ix2 0 l)) d + b (ix1 d))

/-- The pair embedding of row `i` and column `j`: the column residue's left embeddings, the row residue's right embeddings, the relative
position's and the chain separation's. -/
def pairOut (seq epi ch : Words512) (lw rw : Mat 22 128) (lew rew : Mat 2 128) (pw : Mat 65 128) (pc : Mat 5 128)
    (i j : Fin 512) (d : Fin 128) : EReal :=
  ((pick lw (seq (ix2 0 j)) d + pick lew (epi (ix2 0 j)) d) + (pick rw (seq (ix2 0 i)) d + pick rew (epi (ix2 0 i)) d))
    + (pw (ix2 (posRow i.val j.val) d) + pc (ix2 (chainRow (ch (ix2 0 i)) (ch (ix2 0 j))) d))

/-- The state embedding: the residue's and its epitope flag's. -/
def stateOut (seq epi : Words512) (sw : Mat 22 32) (sew : Mat 2 32) (l : Fin 512) (d : Fin 32) : EReal :=
  pick sw (seq (ix2 0 l)) d + pick sew (epi (ix2 0 l)) d

/-- The three results as whole arrays. -/
def msaArr (msa : (⟨4, ![1, 64, 512, 48]⟩ : Shape).Idx → EReal) (seq : Words512) (W : Mat 48 256) (b : (⟨1, ![256]⟩ : Shape).Idx → EReal)
    (qw : Mat 22 256) : (⟨4, ![1, 64, 512, 256]⟩ : Shape).Idx → EReal := fun y => msaOut msa seq W b qw (y 1) (y 2) (y 3)

/-- The pair embedding as a whole array. -/
def pairArr (seq epi ch : Words512) (lw rw : Mat 22 128) (lew rew : Mat 2 128) (pw : Mat 65 128) (pc : Mat 5 128) :
    (⟨4, ![1, 512, 512, 128]⟩ : Shape).Idx → EReal := fun y => pairOut seq epi ch lw rw lew rew pw pc (y 1) (y 2) (y 3)

/-- The state embedding as a whole array. -/
def stateArr (seq epi : Words512) (sw : Mat 22 32) (sew : Mat 2 32) : (⟨3, ![1, 512, 32]⟩ : Shape).Idx → EReal :=
  fun y => stateOut seq epi sw sew (y 1) (y 2)

/-- A matrix whose row `r` is 1 at `w` and 0 elsewhere, times a table, gives the table's row `w`. -/
theorem hot_sum {K N : ℕ} (hot : Fin K → EReal) (T : Mat K N) (w : Fin K) (h : ∀ k, hot k = if w = k then 1 else 0) (d : Fin N) :
    ∑ k : Fin K, hot k * T (ix2 k d) = T (ix2 w d) := by
  rw [Finset.sum_eq_single w]
  · rw [h, if_pos rfl, one_mul]
  · intro k _ hk
    rw [h, if_neg (Ne.symm hk), zero_mul]
  · intro hw
    exact absurd (Finset.mem_univ w) hw

/-- The comparison of a word with a number below `K`, as a bit, as a word, as an extended real. -/
theorem hot_word {K : ℕ} [NeZero K] (hK : K ≤ 2 ^ 32) (w : BitVec 32) (hw : w.toNat < K) (k : Fin K) :
    ((((BitVec.ofBool (w == BitVec.ofNat 32 k.val)).setWidth 32).toInt : ℝ) : EReal) = if Fin.ofNat K w.toNat = k then 1 else 0 := by
  have e : (w == BitVec.ofNat 32 k.val) = decide (Fin.ofNat K w.toNat = k) := by
    rw [Bool.beq_eq_decide_eq]
    refine decide_eq_decide.2 ?_
    rw [Fin.ext_iff, ← BitVec.toNat_inj, BitVec.toNat_ofNat, Fin.val_ofNat, Nat.mod_eq_of_lt hw,
      Nat.mod_eq_of_lt (show k.val < 2 ^ 32 by have := k.isLt; omega)]
  rw [e]
  by_cases h : Fin.ofNat K w.toNat = k
  · rw [if_pos h, decide_eq_true h, show ((BitVec.ofBool true).setWidth 32).toInt = 1 by decide]
    norm_num
  · rw [if_neg h, decide_eq_false h, show ((BitVec.ofBool false).setWidth 32).toInt = 0 by decide]
    norm_num

/-- With the chain-separation rows 1, 2 and 3 real numbers, the kernel's split of them over the left and the right table adds up to the row of
the pair's chain separation. -/
theorem chain_sum (a b : BitVec 32) (ha : a = 0#32 ∨ a = 1#32) (hb : b = 0#32 ∨ b = 1#32) (p1 p2 p3 : ℝ) (l r D : EReal) :
    (((l + p2) + ((b.toInt : ℝ) : EReal) * ((p3 : EReal) - p2)
        + (if a = 1#32 then ((b.toInt : ℝ) : EReal) * ((((2 : ℝ) : EReal) * p2 - p1) - p3) else 0)) + D)
      + (r + ((a.toInt : ℝ) : EReal) * ((p1 : EReal) - p2))
    = (l + r) + (D + (if a = b then (p2 : EReal) else if a = 1#32 then p1 else p3)) := by
  have w0 : (((0#32 : BitVec 32).toInt : ℝ) : EReal) = 0 := by rw [show (0#32 : BitVec 32).toInt = 0 by decide]; norm_num
  have w1 : (((1#32 : BitVec 32).toInt : ℝ) : EReal) = 1 := by rw [show (1#32 : BitVec 32).toInt = 1 by decide]; norm_num
  have n01 : ¬ (0#32 : BitVec 32) = 1#32 := by decide
  have n10 : ¬ (1#32 : BitVec 32) = 0#32 := by decide
  rw [← EReal.coe_mul, ← EReal.coe_sub, ← EReal.coe_sub, ← EReal.coe_sub, ← EReal.coe_sub]
  rcases ha with rfl | rfl <;> rcases hb with rfl | rfl <;> simp only [w0, w1, zero_mul, one_mul, if_true, if_false, n01, n10, add_zero, if_pos rfl]
  · abel
  · have e : (p3 : EReal) = p2 + ((p3 - p2 : ℝ) : EReal) := by rw [← EReal.coe_add]; congr 1; ring
    conv_rhs => rw [e]
    abel
  · have e : (p1 : EReal) = p2 + ((p1 - p2 : ℝ) : EReal) := by rw [← EReal.coe_add]; congr 1; ring
    conv_rhs => rw [e]
    abel
  · have e : (p2 : EReal) = p2 + (((p3 - p2 : ℝ) : EReal) + (((2 * p2 - p1 - p3 : ℝ) : EReal) + ((p1 - p2 : ℝ) : EReal))) := by
      rw [← EReal.coe_add, ← EReal.coe_add, ← EReal.coe_add]; congr 1; ring
    conv_rhs => rw [e]
    abel

end Cert.Drawn

end
-- ==== Proof.KernelIdeal.Tables.lean ====
/- The blocks that the body writes, read at an index as extended reals: the tables' one-hot products pick rows. -/
module

public import proofs.«01_k».proof.Proof.KernelIdeal.Blocks
public import proofs.«01_k».proof.Proof.Spec

@[expose] public section

noncomputable section

namespace Cert.KernelIdeal.Fused

open Idealize.ShloMosaic Idealize.ShloMosaic.Pointwise Cert.KernelIdeal Cert.KernelIdeal.Gen Cert.Drawn

/-- A product into a zero accumulator, read at an entry. -/
theorem dot_zero {M K N : ℕ} (prec : Option ContractPrecision) (a : FVec Ideal ⟨2, ![M, K]⟩ .f32) (b : FVec Ideal ⟨2, ![K, N]⟩ .f32)
    (r : Fin M) (c : Fin N) :
    matmul (DotDims.plain M K N) prec a b (constant ⟨2, ![M, N]⟩ .f32 0x00000000#32) (ix2 r c) = ∑ k : Fin K, a (ix2 r k) * b (ix2 k c) := by
  refine (Ideal.matmul_plain_apply prec a b _ r c).trans ?_
  show Ideal.ofBits .f32 0x00000000#32 + _ = _
  rw [Ideal.ofBits_zero_f32, zero_add]
  rfl

/-- Repeating a column along the rows reads the column. -/
theorem col_apply {α : Type} {M N : ℕ} (v : (⟨2, ![M, 1]⟩ : Shape).Idx → α) (h : (⟨2, ![M, 1]⟩ : Shape).Broadcasts ⟨2, ![M, N]⟩) (hM : M ≠ 1)
    (r : Fin M) (c : Fin N) : broadcastTo ⟨2, ![M, N]⟩ v h (ix2 r c) = v (ix2 r 0) :=
  broadcastTo_apply v h _ _ (fun a => by fin_cases a <;> simp [hM])

/-- Repeating a row down the columns reads the row. -/
theorem row_apply {α : Type} {M N : ℕ} (v : (⟨2, ![1, N]⟩ : Shape).Idx → α) (h : (⟨2, ![1, N]⟩ : Shape).Broadcasts ⟨2, ![M, N]⟩) (hN : N ≠ 1)
    (r : Fin M) (c : Fin N) : broadcastTo ⟨2, ![M, N]⟩ v h (ix2 r c) = v (ix2 0 c) :=
  broadcastTo_apply v h _ _ (fun a => by fin_cases a <;> simp [hN])

/-- The one-hot matrix of the residue words. -/
theorem hot_seq (seq : Vec Ideal S512x1 .i32) (r : Fin 512) (h : (seq (ix2 r 0)).toNat < 22) (k : Fin 22) :
    k0_pay3 seq (ix2 r k) = if Fin.ofNat 22 (seq (ix2 r 0)).toNat = k then 1 else 0 := by
  rw [← hot_word (by decide) _ h k]
  unfold k0_pay3
  rw [shapeCast_self]
  show ((((BitVec.ofBool (broadcastTo S512x22 seq _ (ix2 r k) == iota .tc S512x22 32 [1] _ (ix2 r k))).setWidth 32).toInt : ℝ) : EReal) = _
  rw [col_apply _ _ (by decide), iota_single_apply]
  rfl

/-- The one-hot matrix of the epitope words. -/
theorem hot_epi (epi : Vec Ideal S512x1 .i32) (r : Fin 512) (h : (epi (ix2 r 0)).toNat < 2) (k : Fin 2) :
    k0_pay4 epi (ix2 r k) = if Fin.ofNat 2 (epi (ix2 r 0)).toNat = k then 1 else 0 := by
  rw [← hot_word (by decide) _ h k]
  unfold k0_pay4
  rw [shapeCast_self]
  show ((((BitVec.ofBool (broadcastTo S512x2 epi _ (ix2 r k) == iota .tc S512x2 32 [1] _ (ix2 r k))).setWidth 32).toInt : ℝ) : EReal) = _
  rw [col_apply _ _ (by decide), iota_single_apply]
  rfl

/-- The one-hot product of the residue words with a table, read at an entry: the table's row that the residue's word names. -/
theorem seq_pick {N : ℕ} (seq : Vec Ideal S512x1 .i32) (T : Mat 22 N) (r : Fin 512) (d : Fin N) (h : (seq (ix2 r 0)).toNat < 22) :
    matmul (φ₁ := .f32) (φ₂ := .f32) (DotDims.plain 512 22 N) none (k0_pay3 (F := Ideal) seq) T (constant ⟨2, ![512, N]⟩ .f32 0x00000000#32) (ix2 r d)
      = pick T (seq (ix2 r 0)) d :=
  (dot_zero _ _ _ r d).trans (hot_sum _ T _ (hot_seq seq r h) d)

/-- The same of the epitope words. -/
theorem epi_pick {N : ℕ} (epi : Vec Ideal S512x1 .i32) (T : Mat 2 N) (r : Fin 512) (d : Fin N) (h : (epi (ix2 r 0)).toNat < 2) :
    matmul (φ₁ := .f32) (φ₂ := .f32) (DotDims.plain 512 2 N) none (k0_pay4 (F := Ideal) epi) T (constant ⟨2, ![512, N]⟩ .f32 0x00000000#32) (ix2 r d)
      = pick T (epi (ix2 r 0)) d :=
  (dot_zero _ _ _ r d).trans (hot_sum _ T _ (hot_epi epi r h) d)

/-- Row `k` of the chain-separation table, at a column. -/
theorem p1_apply (pc : Vec Ideal S5x128 .f32) (d : Fin 128) : p1 pc (ix2 0 d) = pc (ix2 1 d) :=
  congrArg pc (funext fun a => by
    fin_cases a
    · rfl
    · exact Fin.ext (show 0 + 1 * d.val = d.val by omega))

theorem p2_apply (pc : Vec Ideal S5x128 .f32) (d : Fin 128) : p2 pc (ix2 0 d) = pc (ix2 2 d) :=
  congrArg pc (funext fun a => by
    fin_cases a
    · rfl
    · exact Fin.ext (show 0 + 1 * d.val = d.val by omega))

theorem p3_apply (pc : Vec Ideal S5x128 .f32) (d : Fin 128) : p3 pc (ix2 0 d) = pc (ix2 3 d) :=
  congrArg pc (funext fun a => by
    fin_cases a
    · rfl
    · exact Fin.ext (show 0 + 1 * d.val = d.val by omega))

section

variable (seq epi ch : Vec Ideal S512x1 .i32) (j : Fin 512) (hs : (seq (ix2 j 0)).toNat < 22) (he : (epi (ix2 j 0)).toNat < 2)

include hs he

/-- The sum that both halves of the left table start from. -/
theorem pay6_apply (a b : Vec Ideal S1x128 .f32) (lw : Vec Ideal S22x128 .f32) (lew : Vec Ideal S2x128 .f32) (d : Fin 128) :
    k0_pay6 seq epi ch a b lw lew (ix2 j d)
      = ((pick (N := 128) lw (seq (ix2 j 0)) d + pick (N := 128) lew (epi (ix2 j 0)) d) + a (ix2 0 d))
        + (((ch (ix2 j 0)).toInt : ℝ) : EReal) * (b (ix2 0 d) - a (ix2 0 d)) := by
  have e1 := seq_pick seq lw j d hs
  have e2 := epi_pick epi lew j d he
  rw [← e1, ← e2]
  unfold k0_pay6 k0_pay5
  rw [shapeCast_self]
  show ((matmul _ _ _ _ _ (ix2 j d) + matmul _ _ _ _ _ (ix2 j d)) + broadcastTo _ _ _ (ix2 j d)) + broadcastTo _ _ _ (ix2 j d) * broadcastTo _ _ _ (ix2 j d) = _
  rw [row_apply _ _ (by decide), row_apply _ _ (by decide), col_apply _ _ (by decide)]
  rfl

/-- The left table's first half. -/
theorem leftTop_apply (lw : Vec Ideal S22x128 .f32) (lew : Vec Ideal S2x128 .f32) (pc : Vec Ideal S5x128 .f32) (d : Fin 128) :
    leftTop seq epi ch lw lew pc (ix2 j d)
      = ((pick (N := 128) lw (seq (ix2 j 0)) d + pick (N := 128) lew (epi (ix2 j 0)) d) + pc (ix2 2 d))
        + (((ch (ix2 j 0)).toInt : ℝ) : EReal) * (pc (ix2 3 d) - pc (ix2 2 d)) := by
  unfold leftTop k0_pay7
  rw [shapeCast_self, pay6_apply seq epi ch j hs he, p2_apply, p3_apply]

/-- The left table's second half. -/
theorem leftBot_apply (lw : Vec Ideal S22x128 .f32) (lew : Vec Ideal S2x128 .f32) (pc : Vec Ideal S5x128 .f32) (d : Fin 128) :
    leftBot seq epi ch lw lew pc (ix2 j d)
      = (((pick (N := 128) lw (seq (ix2 j 0)) d + pick (N := 128) lew (epi (ix2 j 0)) d) + pc (ix2 2 d))
        + (((ch (ix2 j 0)).toInt : ℝ) : EReal) * (pc (ix2 3 d) - pc (ix2 2 d)))
        + (((ch (ix2 j 0)).toInt : ℝ) : EReal) * ((((2 : ℝ) : EReal) * pc (ix2 2 d) - pc (ix2 1 d)) - pc (ix2 3 d)) := by
  have two : Ideal.ofBits .f32 0x40000000#32 = ((2 : ℝ) : EReal) := by
    simp [Ideal.ofBits, Ideal.ieee, -EReal.coe_mul]
    norm_num
  unfold leftBot k0_pay9 k0_pay8 k0_pay5
  rw [shapeCast_self, shapeCast_self]
  show k0_pay6 _ _ _ _ _ _ _ (ix2 j d) + broadcastTo _ _ _ (ix2 j d) * broadcastTo _ _ _ (ix2 j d) = _
  rw [row_apply _ _ (by decide), col_apply _ _ (by decide), pay6_apply seq epi ch j hs he, p2_apply, p3_apply, ← two, ← p1_apply pc, ← p2_apply pc, ← p3_apply pc]
  rfl

/-- The right table. -/
theorem rightScr_apply (rw' : Vec Ideal S22x128 .f32) (rew : Vec Ideal S2x128 .f32) (pc : Vec Ideal S5x128 .f32) (d : Fin 128) :
    rightScr seq epi ch rw' rew pc (ix2 j d)
      = (pick (N := 128) rw' (seq (ix2 j 0)) d + pick (N := 128) rew (epi (ix2 j 0)) d)
        + (((ch (ix2 j 0)).toInt : ℝ) : EReal) * (pc (ix2 1 d) - pc (ix2 2 d)) := by
  have e1 := seq_pick seq rw' j d hs
  have e2 := epi_pick epi rew j d he
  rw [← e1, ← e2, ← p1_apply pc, ← p2_apply pc]
  unfold rightScr k0_pay10 k0_pay5
  rw [shapeCast_self, shapeCast_self]
  show (matmul _ _ _ _ _ (ix2 j d) + matmul _ _ _ _ _ (ix2 j d)) + broadcastTo _ _ _ (ix2 j d) * broadcastTo _ _ _ (ix2 j d) = _
  rw [row_apply _ _ (by decide), col_apply _ _ (by decide)]
  rfl

/-- The state block. -/
theorem stateBlk_apply (sw : Vec Ideal S22x32 .f32) (sew : Vec Ideal S2x32 .f32) (d : Fin 32) :
    stateBlk seq epi sw sew (ix3 0 j d) = pick (N := 32) sw (seq (ix2 j 0)) d + pick (N := 32) sew (epi (ix2 j 0)) d := by
  have e1 := seq_pick seq sw j d hs
  have e2 := epi_pick epi sew j d he
  rw [← e1, ← e2]
  unfold stateBlk k0_pay14 k0_pay12 k0_pay13
  rw [shapeCast_apply _ _ _ (ix2 j d) (by rw [Shape.rowMajor_val_two, Shape.rowMajor_val_three]; show j.val * 32 + d.val = (0 * 512 + j.val) * 32 + d.val; omega)]
  rfl

end

/-- The per-residue row table of the MSA result. -/
theorem qScr_apply (seq : Vec Ideal S512x1 .i32) (qw : Vec Ideal S22x256 .f32) (b : Vec Ideal S1x256 .f32) (l : Fin 512)
    (hs : (seq (ix2 l 0)).toNat < 22) (d : Fin 256) : qScr seq qw b (ix2 l d) = pick (N := 256) qw (seq (ix2 l 0)) d + b (ix2 0 d) := by
  have e1 := seq_pick seq qw l d hs
  rw [← e1]
  unfold qScr k0_pay11
  rw [shapeCast_self, shapeCast_self]
  show matmul _ _ _ _ _ (ix2 l d) + broadcastTo _ _ _ (ix2 l d) = _
  rw [row_apply _ _ (by decide)]
  rfl

/-- The MSA block. -/
theorem msaBlk_apply (x0 : Vec Ideal S1x4x512x48 .f32) (x1 : Vec Ideal S48x256 .f32) (Q : Vec Ideal S512x256 .f32) (n : Fin 4) (l : Fin 512) (d : Fin 256) :
    msaBlk x0 x1 Q (ix4 0 n l d) = (∑ k : Fin 48, x0 (ix4 0 n l k) * x1 (ix2 k d)) + Q (ix2 l d) :=
  congrArg (· + Q (ix2 l d)) (dot_zero none (msaSlice x0 n) x1 l d)

/-- The clipped offset of a row of the diagonal table, as a word. -/
theorem clip_word : ∀ t : Fin 1024, IntOp.minsi 64#32 (IntOp.maxsi 0#32 (BitVec.ofNat 32 t.val - 479#32)) = BitVec.ofNat 32 (min (t.val - 479) 64) := by
  decide +kernel

/-- The diagonal table. -/
theorem diagScr_apply (pw : Vec Ideal S65x128 .f32) (t : Fin 1024) (d : Fin 128) :
    diagScr pw (ix2 t d) = pw (ix2 ⟨min (t.val - 479) 64, by omega⟩ d) := by
  unfold diagScr k0_pay15
  rw [shapeCast_self]
  refine (dot_zero (M := 1024) (K := 65) (N := 128) none _ pw t d).trans (hot_sum _ pw ⟨min (t.val - 479) 64, by omega⟩ (fun k => ?_) d)
  have hm : (BitVec.ofNat 32 (min (t.val - 479) 64)).toNat = min (t.val - 479) 64 := by
    rw [BitVec.toNat_ofNat]; omega
  have e := hot_word (K := 65) (by decide) (BitVec.ofNat 32 (min (t.val - 479) 64)) (by rw [hm]; omega) k
  rw [hm] at e
  have e3 : Fin.ofNat 65 (min (t.val - 479) 64) = ⟨min (t.val - 479) 64, by omega⟩ := Fin.ext (Nat.mod_eq_of_lt (by omega))
  rw [e3, ← clip_word t] at e
  rw [← e]
  show ((((BitVec.ofBool (IntOp.minsi 64#32 (IntOp.maxsi 0#32 (iota .tc S1024x65 32 [0] _ (ix2 t k) - 479#32)) == iota .tc S1024x65 32 [1] _ (ix2 t k))).setWidth 32).toInt : ℝ) : EReal) = _
  rw [iota_single_apply, iota_single_apply]
  rfl

end Cert.KernelIdeal.Fused

end
-- ==== Proof.KernelIdeal.Arrays.lean ====
/- The kernel's blocks as parts of its arguments, and what its three result arrays hold after the run. -/
module

public import proofs.«01_k».proof.Proof.KernelIdeal.Tables
public import proofs.«01_k».proof.Proof.KernelIdeal.Frame
public import Idealize.ShloMosaic.Lib.Pipeline.ValueKit

@[expose] public section

set_option maxRecDepth 16384

noncomputable section

namespace Cert.KernelIdeal.Fused

open Idealize.ShloMosaic Idealize.ShloMosaic.TcCoe Idealize.ShloMosaic.Tactic Idealize.ShloMosaic.Pointwise Idealize.SL.Sem
open Cert.KernelIdeal Cert.KernelIdeal.Gen Cert.Drawn
open Idealize.ShloMosaic.Pipeline (Dat)

variable (m : (ℓ : Loc nD τ sig) → Buf (Elt Ideal) ℓ) (c : Dev nD)

/-- Every window's block index at each grid point. -/
theorem idx : ∀ t : Fin cfg0.N, win0_0.index t = ![0, t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, t.val, 0, 0] ∧ win0_17.index t = ![0, t.val, 0, 0]
    ∧ win0_18.index t = ![0, 0, 0] :=
  (by decide +kernel : ∀ t : Fin grid0.N, _)

/-- A grid point's coordinate is its number. -/
theorem coord : ∀ t : Fin cfg0.N, (grid0.coords t 0).val = t.val := (by decide +kernel : ∀ t : Fin grid0.N, _)

/-- The MSA block at a grid point: four sequences of the argument. -/
theorem blk0 (t : Fin cfg0.N) (n : Fin 4) (l : Fin 512) (k : Fin 48) (n' : Fin 64) (hn : n'.val = t.val * 4 + n.val) :
    (iblk m c 0 t : Vec Ideal S1x4x512x48 .f32) (ix4 0 n l k) = (m ((c.tc : Thread nD τ).loc main_arg0) : Vec Ideal S1x64x512x48 .f32) (ix4 0 n' l k) := by
  blk_ext [iblk, V, idx t]

set_option maxHeartbeats 1600000 in
/-- The blocks of the windows that hold a whole argument. -/
theorem whole_blocks (t : Fin cfg0.N) : iblk m c 1 t = m ((c.tc : Thread nD τ).loc main_arg5)
    ∧ iblk m c 6 t = m ((c.tc : Thread nD τ).loc main_arg3)
    ∧ iblk m c 7 t = m ((c.tc : Thread nD τ).loc main_arg7)
    ∧ iblk m c 8 t = m ((c.tc : Thread nD τ).loc main_arg8)
    ∧ iblk m c 9 t = m ((c.tc : Thread nD τ).loc main_arg9)
    ∧ iblk m c 10 t = m ((c.tc : Thread nD τ).loc main_arg10)
    ∧ iblk m c 11 t = m ((c.tc : Thread nD τ).loc main_arg11)
    ∧ iblk m c 12 t = m ((c.tc : Thread nD τ).loc main_arg12)
    ∧ iblk m c 13 t = m ((c.tc : Thread nD τ).loc main_arg13)
    ∧ iblk m c 14 t = m ((c.tc : Thread nD τ).loc main_arg14)
    ∧ iblk m c 15 t = m ((c.tc : Thread nD τ).loc main_arg15) := by
  refine ⟨?_, ?_, ?_, ?_, ?_, ?_, ?_, ?_, ?_, ?_, ?_⟩ <;> blk_ext! [iblk, V, idx t]

/-- The bias row. -/
theorem blk2 (t : Fin cfg0.N) (d : Fin 256) :
    (iblk m c 2 t : Vec Ideal S1x256 .f32) (ix2 0 d) = (m ((c.tc : Thread nD τ).loc main_arg6) : Vec Ideal S256 .f32) (ix1 d) := by
  blk_ext! [iblk, V, idx t]

/-- The residue words, the epitope words and the chain words as columns. -/
theorem columns (t : Fin cfg0.N) (r : Fin 512) :
    (iblk m c 3 t : Vec Ideal S512x1 .i32) (ix2 r 0) = (m ((c.tc : Thread nD τ).loc main_arg1) : Vec Ideal S1x512 .i32) (ix2 0 r)
    ∧ (iblk m c 4 t : Vec Ideal S512x1 .i32) (ix2 r 0) = (m ((c.tc : Thread nD τ).loc main_arg4) : Vec Ideal S1x512 .i32) (ix2 0 r)
    ∧ (iblk m c 5 t : Vec Ideal S512x1 .i32) (ix2 r 0) = (m ((c.tc : Thread nD τ).loc main_arg3) : Vec Ideal S1x512 .i32) (ix2 0 r) := by
  refine ⟨?_, ?_, ?_⟩ <;> blk_ext! [iblk, V, idx t]

/-- The three result arrays after the run, of the arguments. -/
def msaRes : Vec Ideal S1x64x512x256 .f32 :=
  msaArr (m ((c.tc : Thread nD τ).loc main_arg0)) (m ((c.tc : Thread nD τ).loc main_arg1)) (m ((c.tc : Thread nD τ).loc main_arg5))
    (m ((c.tc : Thread nD τ).loc main_arg6)) (m ((c.tc : Thread nD τ).loc main_arg7))
/-- The pair embedding of the arguments. -/
def pairRes : Vec Ideal S1x512x512x128 .f32 :=
  pairArr (m ((c.tc : Thread nD τ).loc main_arg1)) (m ((c.tc : Thread nD τ).loc main_arg4)) (m ((c.tc : Thread nD τ).loc main_arg3))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg14)) (m ((c.tc : Thread nD τ).loc main_arg15))
/-- The state embedding of the arguments. -/
def stateRes : Vec Ideal S1x512x32 .f32 :=
  stateArr (m ((c.tc : Thread nD τ).loc main_arg1)) (m ((c.tc : Thread nD τ).loc main_arg4)) (m ((c.tc : Thread nD τ).loc main_arg12))
    (m ((c.tc : Thread nD τ).loc main_arg13))

/-- The arguments on this core are as the value claim needs them. -/
abbrev Good : Prop := Inputs (F := Ideal) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg15))

/-- An extended real whose difference with itself is 0 is a real. -/
theorem real_of_sub (x : EReal) (h : FloatOps.cmpf (F := Ideal) (φ := .f32) .oeq (FloatOps.subf (F := Ideal) (φ := .f32) x x)
    (FloatOps.ofBits (F := Ideal) .f32 0x00000000#32) = 1#1) : ∃ y : ℝ, x = (y : EReal) := by
  have h' : x - x = 0 := by
    by_contra hne
    have e : FloatOps.cmpf (F := Ideal) (φ := .f32) .oeq (FloatOps.subf (F := Ideal) (φ := .f32) x x)
        (FloatOps.ofBits (F := Ideal) .f32 0x00000000#32) = BitVec.ofBool (decide (x - x = Ideal.ofBits .f32 0x00000000#32)) := rfl
    rw [e, Ideal.ofBits_zero_f32, decide_eq_false hne] at h
    exact absurd h (by decide)
  induction x with
  | bot => exact absurd h' (by simp)
  | top => exact absurd h' (by simp)
  | coe y => exact ⟨y, rfl⟩

/-- Rows 1 to 3 of the chain-separation table hold reals. -/
theorem mid_real {a1 a2 a3 a4 : Words512} {pc : Mat 5 128} (h : Inputs (F := Ideal) a1 a2 a3 a4 pc) (d : Fin 128) :
    ∃ p1 p2 p3 : ℝ, pc (ix2 1 d) = p1 ∧ pc (ix2 2 d) = p2 ∧ pc (ix2 3 d) = p3 := by
  obtain ⟨p1, h1⟩ := real_of_sub _ (h.mid 0 d)
  obtain ⟨p2, h2⟩ := real_of_sub _ (h.mid 1 d)
  obtain ⟨p3, h3⟩ := real_of_sub _ (h.mid 2 d)
  exact ⟨p1, p2, p3, h1, h2, h3⟩

/-- The MSA block at a grid point, at an index. -/
theorem msa_point (hI : Good m c) (t : Fin cfg0.N) (n : Fin 4) (l : Fin 512) (d : Fin 256) (n' : Fin 64) (hn : n'.val = t.val * 4 + n.val) :
    msaBlk (F := Ideal) (iblk m c 0 t) (iblk m c 1 t) (scQ m c) (ix4 0 n l d) = msaRes m c (ix4 0 n' l d) := by
  obtain ⟨w1, -, w7, -⟩ := whole_blocks m c t
  obtain ⟨-, -, v7, -⟩ := whole_blocks m c pt0
  obtain ⟨cs, -, -⟩ := columns m c pt0 l
  have hs : ((iblk m c 3 pt0 : Vec Ideal S512x1 .i32) (ix2 l 0)).toNat < 22 := by rw [cs]; exact hI.seq _
  rw [msaBlk_apply, w1]
  unfold scQ
  rw [qScr_apply _ _ _ l hs d, v7, cs, blk2]
  exact congrArg (· + _) (Finset.sum_congr rfl fun k _ => congrArg (· * _) (blk0 m c t n l k n' hn))

/-- The pair block at an index, its row given by its global number. -/
theorem pairBlk_apply (i : grid0.Coords) (x6 : Vec Ideal S1x512 .i32) (L : Vec Ideal S1024x128 .f32) (R : Vec Ideal S512x128 .f32)
    (D : Vec Ideal S1024x128 .f32) (r : Fin 32) (j : Fin 512) (d : Fin 128) (g : Fin 512) : g.val = 32 * (i 0).val + r.val →
    pairBlk i x6 L R D (ix4 0 r j d)
      = (L (ix2 ⟨half (x6 (ix2 0 g)) + j.val, by have := half_le (x6 (ix2 0 g)); omega⟩ d) + D (ix2 ⟨511 - g.val + j.val, by omega⟩ d)) + R (ix2 g d) := by
  obtain ⟨g, hlt⟩ := g
  rintro rfl
  rfl

/-- The left table in the half that a chain word selects. -/
theorem leftScr_apply (seq epi ch : Vec Ideal S512x1 .i32) (lw : Vec Ideal S22x128 .f32) (lew : Vec Ideal S2x128 .f32) (pc : Vec Ideal S5x128 .f32)
    (w : BitVec 32) (j : Fin 512) (d : Fin 128) (h : half w + j.val < 1024) :
    leftScr seq epi ch lw lew pc (ix2 ⟨half w + j.val, h⟩ d)
      = if w = 1#32 then leftBot seq epi ch lw lew pc (ix2 j d) else leftTop seq epi ch lw lew pc (ix2 j d) := by
  unfold leftScr
  by_cases hw : w = 1#32
  · have e : half w = 512 := if_pos hw
    rw [if_pos hw]
    exact (dif_neg (show ¬ half w + j.val < 512 by omega)).trans <| congrArg (fun r : Fin 512 => leftBot seq epi ch lw lew pc (ix2 r d)) (Fin.ext (show half w + j.val - 512 = j.val by omega))
  · have e : half w = 0 := if_neg hw
    rw [if_neg hw]
    exact (dif_pos (show half w + j.val < 512 by omega)).trans <| congrArg (fun r : Fin 512 => leftTop seq epi ch lw lew pc (ix2 r d)) (Fin.ext (show half w + j.val = j.val by omega))

/-- The chain-separation row of two chain words, by cases. -/
theorem chainRow_apply {a b : BitVec 32} (ha : a = 0#32 ∨ a = 1#32) (hb : b = 0#32 ∨ b = 1#32) (pc : Mat 5 128) (d : Fin 128) :
    pc (ix2 (chainRow a b) d) = if a = b then pc (ix2 2 d) else if a = 1#32 then pc (ix2 1 d) else pc (ix2 3 d) := by
  rcases ha with rfl | rfl <;> rcases hb with rfl | rfl <;> rfl

/-- The pair block at a grid point, at an index. -/
theorem pair_point (hI : Good m c) (t : Fin cfg0.N) (r : Fin 32) (j : Fin 512) (d : Fin 128) (i : Fin 512) (hi : i.val = t.val * 32 + r.val) :
    pairBlk (F := Ideal) (grid0.coords t) (iblk m c 6 t) (scL m c) (scR m c) (scD m c) (ix4 0 r j d) = pairRes m c (ix4 0 i j d) := by
  obtain ⟨-, w6, -⟩ := whole_blocks m c t
  obtain ⟨-, -, -, v8, v9, v10, v11, -, -, v14, v15⟩ := whole_blocks m c pt0
  obtain ⟨sj, ej, cj⟩ := columns m c pt0 j
  obtain ⟨si, ei, ci⟩ := columns m c pt0 i
  have hsj : ((iblk m c 3 pt0 : Vec Ideal S512x1 .i32) (ix2 j 0)).toNat < 22 := by rw [sj]; exact hI.seq _
  have hsi : ((iblk m c 3 pt0 : Vec Ideal S512x1 .i32) (ix2 i 0)).toNat < 22 := by rw [si]; exact hI.seq _
  have hej : ((iblk m c 4 pt0 : Vec Ideal S512x1 .i32) (ix2 j 0)).toNat < 2 := by rw [ej]; exact hI.epi _
  have hei : ((iblk m c 4 pt0 : Vec Ideal S512x1 .i32) (ix2 i 0)).toNat < 2 := by rw [ei]; exact hI.epi _
  obtain ⟨p1, p2, p3, h1, h2, h3⟩ := mid_real hI d
  have hg : i.val = 32 * (grid0.coords t 0).val + r.val := by rw [coord, hi]; omega
  rw [pairBlk_apply _ _ _ _ _ r j d i hg, w6]
  unfold scL scR scD
  rw [leftScr_apply, leftBot_apply _ _ _ j hsj hej, leftTop_apply _ _ _ j hsj hej, rightScr_apply _ _ _ i hsi hei, diagScr_apply,
    v8, v9, v10, v11, v14, v15, sj, ej, cj, si, ei, ci]
  have e := chain_sum _ _ (hI.chain (ix2 0 i)) (hI.chain (ix2 0 j)) p1 p2 p3
    (pick (N := 128) (m ((c.tc : Thread nD τ).loc main_arg8)) ((m ((c.tc : Thread nD τ).loc main_arg1) : Words512) (ix2 0 j)) d
      + pick (N := 128) (m ((c.tc : Thread nD τ).loc main_arg10)) ((m ((c.tc : Thread nD τ).loc main_arg4) : Words512) (ix2 0 j)) d)
    (pick (N := 128) (m ((c.tc : Thread nD τ).loc main_arg9)) ((m ((c.tc : Thread nD τ).loc main_arg1) : Words512) (ix2 0 i)) d
      + pick (N := 128) (m ((c.tc : Thread nD τ).loc main_arg11)) ((m ((c.tc : Thread nD τ).loc main_arg4) : Words512) (ix2 0 i)) d)
    ((m ((c.tc : Thread nD τ).loc main_arg14) : Mat 65 128) (ix2 (posRow i.val j.val) d))
  rw [← h1, ← h2, ← h3, ← chainRow_apply (hI.chain (ix2 0 i)) (hI.chain (ix2 0 j))] at e
  have hpos : (⟨min (511 - i.val + j.val - 479) 64, by omega⟩ : Fin 65) = posRow i.val j.val :=
    Fin.ext (show min (511 - i.val + j.val - 479) 64 = min (j.val + 32 - i.val) 64 by omega)
  refine Eq.trans ?_ e
  rw [← hpos]
  split
  · rfl
  · rw [add_zero]

/-- The state block at an index. -/
theorem state_point (hI : Good m c) (l : Fin 512) (d : Fin 32) : stB m c (ix3 0 l d) = stateRes m c (ix3 0 l d) := by
  obtain ⟨-, -, -, -, -, -, -, v12, v13, -⟩ := whole_blocks m c pt0
  obtain ⟨sl, el, -⟩ := columns m c pt0 l
  have hs : ((iblk m c 3 pt0 : Vec Ideal S512x1 .i32) (ix2 l 0)).toNat < 22 := by rw [sl]; exact hI.seq _
  have he : ((iblk m c 4 pt0 : Vec Ideal S512x1 .i32) (ix2 l 0)).toNat < 2 := by rw [el]; exact hI.epi _
  unfold stB
  rw [stateBlk_apply _ _ l hs he, v12, v13, sl, el]
  rfl

/-- The MSA result. -/
theorem final16 (hI : Good m c) : (dats m 0 c).arrAt 16 cfg0.N = msaRes m c := by
  refine (dats m 0 c).arrAt_eq_of_covers 16 _ (by decide +kernel) fun t hf y => ?_
  blk_simp
  rw [after16]
  have e1 : ((((cfg0.win 16).blk t).view.emb y) 1 : ℕ) = t.val * 4 + (y 1).val := by blk_simp [idx t]
  have e2 : (((cfg0.win 16).blk t).view.emb y) 2 = y 2 := Fin.ext (by blk_simp [idx t])
  have e3 : (((cfg0.win 16).blk t).view.emb y) 3 = y 3 := Fin.ext (by blk_simp [idx t])
  have hz := unit4 (a := 64) (b := 512) (d := 256) (((cfg0.win 16).blk t).view.emb y)
  rw [e2, e3] at hz
  refine Eq.trans (congrArg _ (unit4 (a := 4) (b := 512) (d := 256) y)) (Eq.trans (msa_point m c hI t (y 1) (y 2) (y 3) _ e1) (congrArg _ hz.symm))

/-- The pair result. -/
theorem final17 (hI : Good m c) : (dats m 0 c).arrAt 17 cfg0.N = pairRes m c := by
  refine (dats m 0 c).arrAt_eq_of_covers 17 _ (by decide +kernel) fun t hf y => ?_
  blk_simp
  rw [after17]
  have e1 : ((((cfg0.win 17).blk t).view.emb y) 1 : ℕ) = t.val * 32 + (y 1).val := by blk_simp [idx t]
  have e2 : (((cfg0.win 17).blk t).view.emb y) 2 = y 2 := Fin.ext (by blk_simp [idx t])
  have e3 : (((cfg0.win 17).blk t).view.emb y) 3 = y 3 := Fin.ext (by blk_simp [idx t])
  have hz := unit4 (a := 512) (b := 512) (d := 128) (((cfg0.win 17).blk t).view.emb y)
  rw [e2, e3] at hz
  refine Eq.trans (congrArg _ (unit4 (a := 32) (b := 512) (d := 128) y)) (Eq.trans (pair_point m c hI t (y 1) (y 2) (y 3) _ e1) (congrArg _ hz.symm))

/-- The state result. -/
theorem final18 (hI : Good m c) : (dats m 0 c).arrAt 18 cfg0.N = stateRes m c := by
  refine (dats m 0 c).arrAt_eq_of_after_last 18 t0_15 (by decide +kernel) _ fun y => ?_
  blk_simp
  rw [after18]
  have hy := unit3 (a := 512) (b := 32) y
  exact Eq.trans (congrArg _ hy) (Eq.trans (state_point m c hI (y 1) (y 2)) (congrArg _ hy.symm))

end Cert.KernelIdeal.Fused

end
-- ==== Proof.Reference.Take.lean ====
/- The reference's operations at an index: taking a table's rows by words that are in range, and counting the bins below a word. -/
module

public import proofs.«01_k».proof.Proof.Spec
public import Idealize.ShloMosaic.Lib.ReduceAll
public import Idealize.ShloMosaic.Lib.Affine
public import Idealize.ShloMosaic.Lib.WordCmp
public import Idealize.ShloMosaic.Lib.StableHlo.Predicate
public import Idealize.ShloMosaic.Lib.Pipeline.Value

@[expose] public section

noncomputable section

namespace Cert.Drawn

open Idealize.ShloMosaic Idealize.ShloMosaic.Pointwise

/-- A word below `2 ^ 31` read signed is its natural number. -/
theorem signed_small (w : BitVec 32) (h : w.toNat < 2 ^ 31) : w.toInt = w.toNat := by
  rw [BitVec.toInt_eq_toNat_cond, if_pos (by omega)]

/-- Wrapping negative words does nothing to small ones. -/
theorem wrap_small {s : Shape} (W z n : IVec s 32) (hz : ∀ y, z y = 0#32) (y : s.Idx) (h : (W y).toNat < 2 ^ 31) :
    select (cmpi .slt W z) (addi W n) W y = W y := by
  show (if IntOp.cmpi .slt (W y) (z y) = 1#1 then _ else W y) = W y
  rw [if_neg]
  rw [IntOp.cmpi_slt, hz, signed_small _ h]
  simp

/-- The range check of words that are all in range holds everywhere. -/
theorem range_check {s t u : Shape} {axes : List (Fin s.rank)} (K : ℕ) (hK : 0 < K) (hK' : K < 2 ^ 31) (ix z b : IVec s 32) (hz : ∀ y, z y = 0#32)
    (hb : ∀ y, b y = BitVec.ofNat 32 (K - 1)) (hix : ∀ y, (ix y).toNat < K) (h : s.ReducesTo axes t) (hu : 0 < u.numel) (j : t.Idx) :
    Host.reduce IntOp.andi (andi (cmpi .sge ix z) (cmpi .sle ix b)) (constantI u 1 1#1) h hu j = 1#1 := by
  refine Host.reduce_andi_one _ _ h hu j rfl fun y => ?_
  have hy := hix y
  have e : (ix y).toInt = (ix y).toNat := signed_small _ (by omega)
  have h1 : IntOp.cmpi .sge (ix y) (z y) = 1#1 := by rw [IntOp.cmpi_sge, hz, e]; simp
  have h2 : IntOp.cmpi .sle (ix y) (b y) = 1#1 := by
    rw [IntOp.cmpi_sle, hb, e, signed_small _ (by rw [BitVec.toNat_ofNat]; omega), BitVec.toNat_ofNat]
    omega
  show IntOp.andi (IntOp.cmpi .sge (ix y) (z y)) (IntOp.cmpi .sle (ix y) (b y)) = 1#1
  rw [h1, h2]
  rfl

/-- A selection whose condition is a mask that holds everywhere, broadcast. -/
theorem select_all {α : Type} {s t : Shape} (dims : Fin s.rank → Fin t.rank) (hB : s.BroadcastsInDim t dims) (v : IVec s 1) (hv : ∀ j, v j = 1#1)
    (x x' : t.Idx → α) (y : t.Idx) : select (broadcastInDim t dims hB v) x x' y = x y := by
  have e : broadcastInDim t dims hB v y = 1#1 := by
    unfold broadcastInDim
    exact hv _
  exact if_pos e

/-- Gathering a table's rows by a list of words, one row for each. -/
abbrev rowDims3 (K D L : ℕ) (wf : GatherDims.WF ⟨2, ![K, D]⟩ ⟨3, ![1, L, 1]⟩ ⟨3, ![1, L, D]⟩ [2] [0] [] [0] [] 2 ![1, D]) :
    GatherDims ⟨2, ![K, D]⟩ ⟨3, ![1, L, 1]⟩ ⟨3, ![1, L, D]⟩ where
  offsetDims := [2]
  collapsedSliceDims := [0]
  operandBatchingDims := []
  startIndicesBatchingDims := []
  startIndexMap := [0]
  indexVectorDim := 2
  sliceSizes := ![1, D]
  wf := wf

/-- Gathering a table's rows by a square of words. -/
abbrev rowDims4 (K D L M : ℕ) (wf : GatherDims.WF ⟨2, ![K, D]⟩ ⟨4, ![1, L, M, 1]⟩ ⟨4, ![1, L, M, D]⟩ [3] [0] [] [0] [] 3 ![1, D]) :
    GatherDims ⟨2, ![K, D]⟩ ⟨4, ![1, L, M, 1]⟩ ⟨4, ![1, L, M, D]⟩ where
  offsetDims := [3]
  collapsedSliceDims := [0]
  operandBatchingDims := []
  startIndicesBatchingDims := []
  startIndexMap := [0]
  indexVectorDim := 3
  sliceSizes := ![1, D]
  wf := wf

/-- A gather of a table's rows reads the row that the start word names, when the word is in range. -/
theorem gather_row {K D : ℕ} [NeZero K] {si t : Shape} (d : GatherDims ⟨2, ![K, D]⟩ si t) (hc : d.collapsedSliceDims = [0]) (hb : d.operandBatchingDims = [])
    (hm : d.startIndexMap = [0]) (T : Mat K D) (ix : IVec si 32) (y : t.Idx) (w : BitVec 32) (c : Fin D) (hw : w.toNat < K) (hK : K < 2 ^ 31)
    (hy : ∀ k, ix (d.siIdx y k) = w) (ho : d.offCoord y 1 = c.val) : Host.gather d T ix y = pick T w c := by
  unfold Host.gather pick
  refine congrArg T (funext fun a => Fin.ext ?_)
  show d.start y ix a + d.batchCoord y a + d.offCoord y a = _
  rw [GatherDims.batchCoord_eq_zero _ _ _ (by rw [hb]; exact List.not_mem_nil)]
  have h01 : a = 0 ∨ a = 1 := by
    match a with
    | ⟨0, _⟩ => exact Or.inl rfl
    | ⟨1, _⟩ => exact Or.inr rfl
  rcases h01 with rfl | rfl
  · have hs : d.sliceSizes 0 = 1 := d.slice_collapsed 0 (by rw [hc]; exact List.mem_singleton.mpr rfl)
    rw [GatherDims.offCoord_eq_zero _ _ _ (by rw [GatherDims.mem_sKept, hc]; simp)]
    unfold GatherDims.start
    rw [dif_pos (by rw [hm]; exact List.mem_singleton.mpr rfl), hy, signed_small _ (by omega), hs]
    show min w.toNat (K - 1) + 0 + 0 = w.toNat % K
    rw [Nat.mod_eq_of_lt hw]
    omega
  · unfold GatherDims.start
    rw [dif_neg (by rw [hm]; simp), ho]
    show 0 + 0 + c.val = c.val
    omega

/-- Taking a table's rows by a list of words in range: the row that the word names. -/
theorem take3 {K D : ℕ} [NeZero K] (hK : K < 2 ^ 31) (wf) (T : Mat K D) (W : IVec ⟨2, ![1, 512]⟩ 32) (hW : ∀ y, (W y).toNat < K)
    (ix z b : IVec ⟨3, ![1, 512, 1]⟩ 32) (hix : ∀ l : Fin 512, ix (ix3 0 l 0) = W (ix2 0 l)) (hz : ∀ y, z y = 0#32) (hb : ∀ y, b y = BitVec.ofNat 32 (K - 1))
    (hr : (⟨3, ![1, 512, 1]⟩ : Shape).ReducesTo [2] ⟨2, ![1, 512]⟩) (hu : 0 < (⟨0, ![]⟩ : Shape).numel)
    (hB : (⟨2, ![1, 512]⟩ : Shape).BroadcastsInDim ⟨3, ![1, 512, D]⟩ ![0, 1]) (nan : (⟨3, ![1, 512, D]⟩ : Shape).Idx → EReal) (l : Fin 512) (c : Fin D) :
    select (broadcastInDim ⟨3, ![1, 512, D]⟩ ![0, 1] hB (Host.reduce IntOp.andi (andi (cmpi .sge ix z) (cmpi .sle ix b)) (constantI ⟨0, ![]⟩ 1 1#1) hr hu))
      (Host.gather (rowDims3 K D 512 wf) T ix) nan (ix3 0 l c) = pick T (W (ix2 0 l)) c := by
  have hix' : ∀ y, ix y = W (ix2 0 (y 1)) := fun y => (congrArg ix (by
    funext a
    fin_cases a
    · exact Subsingleton.elim (α := Fin 1) _ _
    · rfl
    · exact Subsingleton.elim (α := Fin 1) _ _)).trans (hix (y 1))
  refine (select_all _ hB _ (fun j => range_check K (NeZero.pos K) hK ix z b hz hb (fun y => ?_) hr hu j) _ _ _).trans ?_
  · rw [hix']; exact hW _
  · refine gather_row _ rfl rfl rfl T ix _ _ c (hW _) hK (fun k => ?_) rfl
    rw [hix']
    rfl

/-- Taking a table's rows by a square of words in range. -/
theorem take4 {K D : ℕ} [NeZero K] (hK : K < 2 ^ 31) (wf) (T : Mat K D) (W : IVec ⟨3, ![1, 512, 512]⟩ 32) (hW : ∀ y, (W y).toNat < K)
    (ix z b : IVec ⟨4, ![1, 512, 512, 1]⟩ 32) (hix : ∀ i j : Fin 512, ix (ix4 0 i j 0) = W (ix3 0 i j)) (hz : ∀ y, z y = 0#32) (hb : ∀ y, b y = BitVec.ofNat 32 (K - 1))
    (hr : (⟨4, ![1, 512, 512, 1]⟩ : Shape).ReducesTo [3] ⟨3, ![1, 512, 512]⟩) (hu : 0 < (⟨0, ![]⟩ : Shape).numel)
    (hB : (⟨3, ![1, 512, 512]⟩ : Shape).BroadcastsInDim ⟨4, ![1, 512, 512, D]⟩ ![0, 1, 2]) (nan : (⟨4, ![1, 512, 512, D]⟩ : Shape).Idx → EReal)
    (i j : Fin 512) (c : Fin D) :
    select (broadcastInDim ⟨4, ![1, 512, 512, D]⟩ ![0, 1, 2] hB (Host.reduce IntOp.andi (andi (cmpi .sge ix z) (cmpi .sle ix b)) (constantI ⟨0, ![]⟩ 1 1#1) hr hu))
      (Host.gather (rowDims4 K D 512 512 wf) T ix) nan (ix4 0 i j c) = pick T (W (ix3 0 i j)) c := by
  have hix' : ∀ y, ix y = W (ix3 0 (y 1) (y 2)) := fun y => (congrArg ix (by
    funext a
    fin_cases a
    · exact Subsingleton.elim (α := Fin 1) _ _
    · rfl
    · rfl
    · exact Subsingleton.elim (α := Fin 1) _ _)).trans (hix (y 1) (y 2))
  refine (select_all _ hB _ (fun j => range_check K (NeZero.pos K) hK ix z b hz hb (fun y => ?_) hr hu j) _ _ _).trans ?_
  · rw [hix']; exact hW _
  · refine gather_row _ rfl rfl rfl T ix _ _ c (hW _) hK (fun k => ?_) rfl
    rw [hix']
    rfl

/-- How many of `N` numbers are below `k`. -/
theorem card_below (N k : ℕ) : (Finset.univ.filter fun b : Fin N => b.val < k).card = min k N := by
  rw [← Finset.card_map Fin.valEmbedding, ← Finset.card_range (min k N)]
  congr 1
  ext x
  simp only [Finset.mem_map, Finset.mem_filter, Finset.mem_univ, true_and, Fin.valEmbedding_apply, Finset.mem_range, lt_min_iff]
  exact ⟨fun ⟨b, hb, e⟩ => e ▸ ⟨hb, b.isLt⟩, fun ⟨h1, h2⟩ => ⟨⟨x, h2⟩, h1, rfl⟩⟩

/-- Summing the widened bits of a box's last axis counts the bits that are set: here those of the bins `b - H` below `w`. -/
theorem bins_count {N : ℕ} (H : ℕ) (hN : N < 2 ^ 32) (msk : IVec ⟨4, ![1, 512, 512, N]⟩ 1) (hw : 1 < 32)
    (h : (⟨4, ![1, 512, 512, N]⟩ : Shape).ReducesTo [3] ⟨3, ![1, 512, 512]⟩) (hu : 0 < (⟨0, ![]⟩ : Shape).numel) (p q : Fin 512) (w : ℤ)
    (hm : ∀ b : Fin N, msk (ix4 0 p q b) = 1#1 ↔ (b.val : ℤ) - H < w) :
    (Host.reduce IntOp.addi (extui 32 msk hw) (constantI ⟨0, ![]⟩ 32 0#32) h hu (ix3 0 p q)).toNat = min (w + H).toNat N := by
  classical
  have hval : ∀ y, (extui 32 msk hw y).toNat = if msk y = 1#1 then 1 else 0 := fun y => StableHlo.Predicate.toNat_setWidth_bit (msk y)
  have hdrop : ∀ y : (⟨4, ![1, 512, 512, N]⟩ : Shape).Idx, h.drop y = ix3 0 p q ↔ y = ix4 0 p q (y 3) := by
    intro y
    have v1 : (h.drop y 1 : ℕ) = y 1 := Shape.ReducesTo.drop_apply_val h y 1
    have v2 : (h.drop y 2 : ℕ) = y 2 := Shape.ReducesTo.drop_apply_val h y 2
    constructor
    · intro e
      rw [e] at v1 v2
      funext a
      fin_cases a
      · exact Subsingleton.elim (α := Fin 1) _ _
      · exact Fin.ext v1.symm
      · exact Fin.ext v2.symm
      · rfl
    · intro e
      funext a
      fin_cases a
      · exact Subsingleton.elim (α := Fin 1) _ _
      · exact Fin.ext (v1.trans (congrArg (fun z => ((z 1).val : ℕ)) e))
      · exact Fin.ext (v2.trans (congrArg (fun z => ((z 2).val : ℕ)) e))
  have hsum : ∑ y ∈ Finset.univ.filter (fun y : (⟨4, ![1, 512, 512, N]⟩ : Shape).Idx => h.drop y = ix3 0 p q), (extui 32 msk hw y).toNat = min (w + H).toNat N := by
    rw [← card_below N (w + H).toNat, Finset.card_filter]
    refine Finset.sum_bij' (fun y _ => y 3) (fun b _ => ix4 0 p q b) (fun _ _ => Finset.mem_univ _)
      (fun b _ => Finset.mem_filter.2 ⟨Finset.mem_univ _, (hdrop _).2 rfl⟩)
      (fun y hy => ((hdrop y).1 (Finset.mem_filter.1 hy).2).symm) (fun _ _ => rfl) fun y hy => ?_
    rw [hval, (hdrop y).1 (Finset.mem_filter.1 hy).2]
    refine if_congr ((hm (y 3)).trans ?_) rfl rfl
    show _ ↔ (y 3).val < _
    omega
  rw [Host.reduce_eq_fold]
  show (Finset.fold IntOp.addi 0#32 (extui 32 msk hw) (Finset.univ.filter fun y : (⟨4, ![1, 512, 512, N]⟩ : Shape).Idx => h.drop y = ix3 0 p q)).toNat = _
  rw [StableHlo.Predicate.toNat_fold_addi _ _ (by rw [hsum]; omega), hsum]

/-- The difference of two numbers below 512 as words, the same offset added to both. -/
theorem sub_words (a : BitVec 32) (i j : ℕ) (hi : i < 512) (hj : j < 512) :
    ((a + BitVec.ofNat 32 j) - (a + BitVec.ofNat 32 i)).toInt = (j : ℤ) - i := by
  rw [show (a + BitVec.ofNat 32 j) - (a + BitVec.ofNat 32 i) = BitVec.ofNat 32 j - BitVec.ofNat 32 i by bv_omega, BitVec.toInt_sub,
    signed_small _ (by rw [BitVec.toNat_ofNat]; omega), signed_small _ (by rw [BitVec.toNat_ofNat]; omega), BitVec.toNat_ofNat, BitVec.toNat_ofNat,
    Nat.mod_eq_of_lt (by omega), Nat.mod_eq_of_lt (by omega)]
  exact Int.bmod_eq_of_le (by omega) (by omega)

/-- Two broadcasts of a list of bins along the last axis of a box. -/
theorem bins_read {α : Type} {N : ℕ} (h1 : (⟨1, ![N]⟩ : Shape).BroadcastsInDim ⟨4, ![1, 1, 1, N]⟩ ![3])
    (h2 : (⟨4, ![1, 1, 1, N]⟩ : Shape).BroadcastsInDim ⟨4, ![1, 512, 512, N]⟩ ![0, 1, 2, 3]) (v : (⟨1, ![N]⟩ : Shape).Idx → α) (i j : Fin 512) (b : Fin N) :
    broadcastInDim ⟨4, ![1, 512, 512, N]⟩ ![0, 1, 2, 3] h2 (broadcastInDim ⟨4, ![1, 1, 1, N]⟩ ![3] h1 v) (ix4 0 i j b) = v (ix1 b) := by
  have hb : b.val = if N = 1 then 0 else b.val := by have := b.isLt; split <;> omega
  refine (broadcastInDim_apply _ h2 _ _ (ix4 0 0 0 b) fun a => ?_).trans (broadcastInDim_apply _ h1 v _ _ fun a => ?_)
  · fin_cases a
    · rfl
    · rfl
    · rfl
    · exact hb
  · fin_cases a
    exact hb

/-- Two broadcasts of a square along a new last axis. -/
theorem square_read {α : Type} {N : ℕ} (h1 : (⟨3, ![1, 512, 512]⟩ : Shape).BroadcastsInDim ⟨4, ![1, 512, 512, 1]⟩ ![0, 1, 2])
    (h2 : (⟨4, ![1, 512, 512, 1]⟩ : Shape).BroadcastsInDim ⟨4, ![1, 512, 512, N]⟩ ![0, 1, 2, 3]) (v : (⟨3, ![1, 512, 512]⟩ : Shape).Idx → α) (i j : Fin 512)
    (b : Fin N) : broadcastInDim ⟨4, ![1, 512, 512, N]⟩ ![0, 1, 2, 3] h2 (broadcastInDim ⟨4, ![1, 512, 512, 1]⟩ ![0, 1, 2] h1 v) (ix4 0 i j b) = v (ix3 0 i j) :=
  (broadcastInDim_apply _ h2 _ _ (ix4 0 i j 0) fun a => by fin_cases a <;> rfl).trans (broadcastInDim_apply _ h1 v _ _ fun a => by fin_cases a <;> rfl)

/-- Two broadcasts of a list along the columns of a square, and along its rows. -/
theorem col_read {α : Type} (h1 : (⟨2, ![1, 512]⟩ : Shape).BroadcastsInDim ⟨3, ![1, 1, 512]⟩ ![0, 2])
    (h2 : (⟨3, ![1, 1, 512]⟩ : Shape).BroadcastsInDim ⟨3, ![1, 512, 512]⟩ ![0, 1, 2]) (v : (⟨2, ![1, 512]⟩ : Shape).Idx → α) (i j : Fin 512) :
    broadcastInDim ⟨3, ![1, 512, 512]⟩ ![0, 1, 2] h2 (broadcastInDim ⟨3, ![1, 1, 512]⟩ ![0, 2] h1 v) (ix3 0 i j) = v (ix2 0 j) :=
  (broadcastInDim_apply _ h2 _ _ (ix3 0 0 j) fun a => by fin_cases a <;> rfl).trans (broadcastInDim_apply _ h1 v _ _ fun a => by fin_cases a <;> rfl)

theorem row_read {α : Type} (h1 : (⟨2, ![1, 512]⟩ : Shape).BroadcastsInDim ⟨3, ![1, 512, 1]⟩ ![0, 1])
    (h2 : (⟨3, ![1, 512, 1]⟩ : Shape).BroadcastsInDim ⟨3, ![1, 512, 512]⟩ ![0, 1, 2]) (v : (⟨2, ![1, 512]⟩ : Shape).Idx → α) (i j : Fin 512) :
    broadcastInDim ⟨3, ![1, 512, 512]⟩ ![0, 1, 2] h2 (broadcastInDim ⟨3, ![1, 512, 1]⟩ ![0, 1] h1 v) (ix3 0 i j) = v (ix2 0 i) :=
  (broadcastInDim_apply _ h2 _ _ (ix3 0 i 0) fun a => by fin_cases a <;> rfl).trans (broadcastInDim_apply _ h1 v _ _ fun a => by fin_cases a <;> rfl)

/-- The number of bins below the difference of a column's and a row's words. -/
theorem bins_words {N : ℕ} (H : ℕ) (hN : N < 2 ^ 32) (bin : IVec ⟨1, ![N]⟩ 32) (V : IVec ⟨2, ![1, 512]⟩ 32)
    (hbin : ∀ b : Fin N, (bin (ix1 b)).toInt = (b.val : ℤ) - H) (h1 h2 h3 h4 h5 h6 h7 h8) (hw : 1 < 32)
    (h : (⟨4, ![1, 512, 512, N]⟩ : Shape).ReducesTo [3] ⟨3, ![1, 512, 512]⟩) (hu : 0 < (⟨0, ![]⟩ : Shape).numel) (i j : Fin 512) :
    (Host.reduce IntOp.addi (extui 32 (cmpi .slt
        (broadcastInDim ⟨4, ![1, 512, 512, N]⟩ ![0, 1, 2, 3] h2 (broadcastInDim ⟨4, ![1, 1, 1, N]⟩ ![3] h1 bin))
        (broadcastInDim ⟨4, ![1, 512, 512, N]⟩ ![0, 1, 2, 3] h4 (broadcastInDim ⟨4, ![1, 512, 512, 1]⟩ ![0, 1, 2] h3
          (subi (broadcastInDim ⟨3, ![1, 512, 512]⟩ ![0, 1, 2] h6 (broadcastInDim ⟨3, ![1, 1, 512]⟩ ![0, 2] h5 V))
            (broadcastInDim ⟨3, ![1, 512, 512]⟩ ![0, 1, 2] h8 (broadcastInDim ⟨3, ![1, 512, 1]⟩ ![0, 1] h7 V)))))) hw)
      (constantI ⟨0, ![]⟩ 32 0#32) h hu (ix3 0 i j)).toNat = min ((V (ix2 0 j) - V (ix2 0 i)).toInt + H).toNat N := by
  refine bins_count H hN _ hw h hu i j _ fun b => ?_
  show IntOp.cmpi .slt _ _ = 1#1 ↔ _
  rw [IntOp.cmpi_slt, bins_read, square_read, hbin]
  show _ < (_ - _ : BitVec 32).toInt ↔ _
  rw [col_read, row_read]

/-- Taking a table's rows by a list of words in range, with the wrap of negative words that precedes it. -/
theorem take_list {K D : ℕ} [NeZero K] (hK : K < 2 ^ 31) (wf) (T : Mat K D) (W : IVec ⟨2, ![1, 512]⟩ 32) (hW : ∀ y, (W y).toNat < K)
    (z₀ n : IVec ⟨2, ![1, 512]⟩ 32) (hz₀ : ∀ y, z₀ y = 0#32) (h0 : (⟨2, ![1, 512]⟩ : Shape).BroadcastsInDim ⟨3, ![1, 512, 1]⟩ ![0, 1])
    (z b : IVec ⟨3, ![1, 512, 1]⟩ 32) (hz : ∀ y, z y = 0#32) (hb : ∀ y, b y = BitVec.ofNat 32 (K - 1))
    (hr : (⟨3, ![1, 512, 1]⟩ : Shape).ReducesTo [2] ⟨2, ![1, 512]⟩) (hu : 0 < (⟨0, ![]⟩ : Shape).numel) (hB : (⟨2, ![1, 512]⟩ : Shape).BroadcastsInDim ⟨3, ![1, 512, D]⟩ ![0, 1]) (nan : (⟨3, ![1, 512, D]⟩ : Shape).Idx → EReal) (l : Fin 512) (c : Fin D) :
    select (broadcastInDim ⟨3, ![1, 512, D]⟩ ![0, 1] hB (Host.reduce IntOp.andi
        (andi (cmpi .sge (broadcastInDim ⟨3, ![1, 512, 1]⟩ ![0, 1] h0 (select (cmpi .slt W z₀) (addi W n) W)) z)
          (cmpi .sle (broadcastInDim ⟨3, ![1, 512, 1]⟩ ![0, 1] h0 (select (cmpi .slt W z₀) (addi W n) W)) b)) (constantI ⟨0, ![]⟩ 1 1#1) hr hu))
      (Host.gather (rowDims3 K D 512 wf) T (broadcastInDim ⟨3, ![1, 512, 1]⟩ ![0, 1] h0 (select (cmpi .slt W z₀) (addi W n) W))) nan (ix3 0 l c)
      = pick T (W (ix2 0 l)) c := by
  refine take3 hK wf T W hW _ z b (fun l => ?_) hz hb hr hu hB nan l c
  rw [broadcastInDim_apply _ h0 _ _ (ix2 0 l) fun a => by fin_cases a <;> rfl]
  exact wrap_small W z₀ n hz₀ _ ((hW _).trans hK)

/-- Taking a table's rows by a square of words in range, with the wrap of negative words that precedes it. -/
theorem take_square {K D : ℕ} [NeZero K] (hK : K < 2 ^ 31) (wf) (T : Mat K D) (W : IVec ⟨3, ![1, 512, 512]⟩ 32) (hW : ∀ y, (W y).toNat < K)
    (z₀ n : IVec ⟨3, ![1, 512, 512]⟩ 32) (hz₀ : ∀ y, z₀ y = 0#32) (h0 : (⟨3, ![1, 512, 512]⟩ : Shape).BroadcastsInDim ⟨4, ![1, 512, 512, 1]⟩ ![0, 1, 2])
    (z b : IVec ⟨4, ![1, 512, 512, 1]⟩ 32) (hz : ∀ y, z y = 0#32) (hb : ∀ y, b y = BitVec.ofNat 32 (K - 1))
    (hr : (⟨4, ![1, 512, 512, 1]⟩ : Shape).ReducesTo [3] ⟨3, ![1, 512, 512]⟩) (hu : 0 < (⟨0, ![]⟩ : Shape).numel) (hB : (⟨3, ![1, 512, 512]⟩ : Shape).BroadcastsInDim ⟨4, ![1, 512, 512, D]⟩ ![0, 1, 2]) (nan : (⟨4, ![1, 512, 512, D]⟩ : Shape).Idx → EReal) (i j : Fin 512) (c : Fin D) :
    select (broadcastInDim ⟨4, ![1, 512, 512, D]⟩ ![0, 1, 2] hB (Host.reduce IntOp.andi
        (andi (cmpi .sge (broadcastInDim ⟨4, ![1, 512, 512, 1]⟩ ![0, 1, 2] h0 (select (cmpi .slt W z₀) (addi W n) W)) z)
          (cmpi .sle (broadcastInDim ⟨4, ![1, 512, 512, 1]⟩ ![0, 1, 2] h0 (select (cmpi .slt W z₀) (addi W n) W)) b)) (constantI ⟨0, ![]⟩ 1 1#1) hr hu))
      (Host.gather (rowDims4 K D 512 512 wf) T (broadcastInDim ⟨4, ![1, 512, 512, 1]⟩ ![0, 1, 2] h0 (select (cmpi .slt W z₀) (addi W n) W))) nan (ix4 0 i j c)
      = pick T (W (ix3 0 i j)) c := by
  refine take4 hK wf T W hW _ z b (fun i j => ?_) hz hb hr hu hB nan i j c
  rw [broadcastInDim_apply _ h0 _ _ (ix3 0 i j) fun a => by fin_cases a <;> rfl]
  exact wrap_small W z₀ n hz₀ _ ((hW _).trans hK)

end Cert.Drawn

end
-- ==== Proof.Reference.Value.lean ====
/- The reference's three results as functions of its arguments, and its run stated with them. -/
module

public import proofs.«01_k».proof.Proof.Reference.Take
public import proofs.«01_k».proof.Proof.Pre
public import proofs.«01_k».proof.Proof.Gen.ReferenceIdeal.Run

@[expose] public section

set_option maxRecDepth 16384

noncomputable section

namespace Cert.ReferenceIdeal.Results

open Idealize.ShloMosaic Idealize.ShloMosaic.TcCoe Idealize.ShloMosaic.Pointwise Idealize.ShloMosaic.StableHlo Idealize.SL.Sem
open Cert.ReferenceIdeal Cert.ReferenceIdeal.Gen Cert.ReferenceIdeal.Value Cert.Drawn

/-- The product of the sequence's residue features with the weights. -/
theorem dot_read (X : FVec Ideal S1x64x512x48 .f32) (W : FVec Ideal S48x256 .f32) (n : Fin 64) (l : Fin 512) (d : Fin 256) :
    Host.dotGeneral (F := Ideal) dot_S1x64x512x48_S48x256_S1x64x512x256_3_0_012_1_n_n none X W (ix4 0 n l d)
      = ∑ k : Fin 48, X (ix4 0 n l k) * W (ix2 k d) := by
  pointwise

/-- The bias, broadcast to every sequence and residue. -/
theorem bias_read {α : Type} (v : S256.Idx → α) (n : Fin 64) (l : Fin 512) (d : Fin 256) :
    broadcastInDim S1x64x512x256 ![0, 1, 2, 3] bcast_S1x1x1x256_S1x64x512x256_0_1_2_3 (broadcastInDim S1x1x1x256 ![3] bcast_S256_S1x1x1x256_3 v) (ix4 0 n l d)
      = v (ix1 d) :=
  (broadcastInDim_apply _ _ _ _ (ix4 0 0 0 d) fun a => by fin_cases a <;> rfl).trans (broadcastInDim_apply _ _ v _ _ fun a => by fin_cases a <;> rfl)

/-- The query embedding, broadcast to every sequence. -/
theorem query_read {α : Type} (v : S1x512x256.Idx → α) (n : Fin 64) (l : Fin 512) (d : Fin 256) :
    broadcastInDim S1x64x512x256 ![0, 1, 2, 3] bcast_S1x1x512x256_S1x64x512x256_0_1_2_3
      (broadcastInDim S1x1x512x256 ![0, 2, 3] bcast_S1x512x256_S1x1x512x256_0_2_3 v) (ix4 0 n l d) = v (ix3 0 l d) :=
  (broadcastInDim_apply _ _ _ _ (ix4 0 0 l d) fun a => by fin_cases a <;> rfl).trans (broadcastInDim_apply _ _ v _ _ fun a => by fin_cases a <;> rfl)

/-- The left embeddings, broadcast along the rows, and the right ones along the columns. -/
theorem left_read (u v : S1x512x128.Idx → EReal) (i j : Fin 512) (d : Fin 128) :
    broadcastInDim S1x512x512x128 ![0, 1, 2, 3] bcast_S1x1x512x128_S1x512x512x128_0_1_2_3
      (addf (F := Ideal) (φ := .f32) (broadcastInDim S1x1x512x128 ![0, 2, 3] bcast_S1x512x128_S1x1x512x128_0_2_3 u)
        (broadcastInDim S1x1x512x128 ![0, 2, 3] bcast_S1x512x128_S1x1x512x128_0_2_3 v)) (ix4 0 i j d) = u (ix3 0 j d) + v (ix3 0 j d) :=
  (broadcastInDim_apply _ _ _ _ (ix4 0 0 j d) fun a => by fin_cases a <;> rfl).trans
    (congrArg₂ (· + ·) (broadcastInDim_apply _ _ u _ _ fun a => by fin_cases a <;> rfl) (broadcastInDim_apply _ _ v _ _ fun a => by fin_cases a <;> rfl))

theorem right_read (u v : S1x512x128.Idx → EReal) (i j : Fin 512) (d : Fin 128) :
    broadcastInDim S1x512x512x128 ![0, 1, 2, 3] bcast_S1x512x1x128_S1x512x512x128_0_1_2_3
      (addf (F := Ideal) (φ := .f32) (broadcastInDim S1x512x1x128 ![0, 1, 3] bcast_S1x512x128_S1x512x1x128_0_1_3 u)
        (broadcastInDim S1x512x1x128 ![0, 1, 3] bcast_S1x512x128_S1x512x1x128_0_1_3 v)) (ix4 0 i j d) = u (ix3 0 i d) + v (ix3 0 i d) :=
  (broadcastInDim_apply _ _ _ _ (ix4 0 i 0 d) fun a => by fin_cases a <;> rfl).trans
    (congrArg₂ (· + ·) (broadcastInDim_apply _ _ u _ _ fun a => by fin_cases a <;> rfl) (broadcastInDim_apply _ _ v _ _ fun a => by fin_cases a <;> rfl))

variable (V : Valuation τ sig (Elt Ideal))

/-- The launch contents satisfy the precondition. -/
abbrev Good : Prop :=
  Inputs (F := Ideal) (V (Proc.devRef .tc main_arg1)) (V (Proc.devRef .tc main_arg2)) (V (Proc.devRef .tc main_arg3)) (V (Proc.devRef .tc main_arg4))
    (V (Proc.devRef .tc main_arg15))

/-- The relative-position words. -/
theorem pos_word (hI : Good V) (i j : Fin 512) : ((res_main_v35 V : IVec S1x512x512 32) (ix3 0 i j)).toNat = min (j.val + 32 - i.val) 64 := by
  refine (bins_words (N := 64) 32 (by norm_num) _ (V (Proc.devRef .tc main_arg2)) (fun b => ?_) _ _ _ _ _ _ _ _ _ _ _ i j).trans ?_
  · exact (by decide : ∀ b : Fin 64, (4294967264#32 + BitVec.ofNat 32 b.val).toInt = (b.val : ℤ) - (32 : ℕ)) b
  · rw [hI.idx (ix2 0 j), hI.idx (ix2 0 i), sub_words _ _ _ (by exact i.isLt) (by exact j.isLt)]
    show min ((j.val : ℤ) - i.val + (32 : ℕ)).toNat 64 = _
    omega

/-- The chain-separation words. -/
theorem chain_word (hI : Good V) (i j : Fin 512) : ((res_main_v51 V : IVec S1x512x512 32) (ix3 0 i j)).toNat
    = (chainRow ((V (Proc.devRef .tc main_arg3) : Words512) (ix2 0 i)) ((V (Proc.devRef .tc main_arg3) : Words512) (ix2 0 j))).val := by
  refine (bins_words (N := 4) 2 (by norm_num) _ (V (Proc.devRef .tc main_arg3)) (fun b => ?_) _ _ _ _ _ _ _ _ _ _ _ i j).trans ?_
  · exact (by decide : ∀ b : Fin 4, (4294967294#32 + BitVec.ofNat 32 b.val).toInt = (b.val : ℤ) - (2 : ℕ)) b
  · rcases hI.chain (ix2 0 i) with ei | ei <;> rcases hI.chain (ix2 0 j) with ej | ej <;> rw [ei, ej] <;> rfl

/-- A table's row named by a word whose number is known. -/
theorem pick_row {K N : ℕ} [NeZero K] (T : Mat K N) (w : BitVec 32) (r : Fin K) (h : w.toNat = r.val) (d : Fin N) : pick T w d = T (ix2 r d) :=
  congrArg (fun r => T (ix2 r d)) (Fin.ext ((congrArg (· % K) h).trans (Nat.mod_eq_of_lt r.isLt)))

/-- The pair embedding. -/
theorem pair_ref (hI : Good V) : res_main_v54 V = pairArr (V (Proc.devRef .tc main_arg1)) (V (Proc.devRef .tc main_arg4)) (V (Proc.devRef .tc main_arg3))
    (V (Proc.devRef .tc main_arg8)) (V (Proc.devRef .tc main_arg9)) (V (Proc.devRef .tc main_arg10)) (V (Proc.devRef .tc main_arg11))
    (V (Proc.devRef .tc main_arg14)) (V (Proc.devRef .tc main_arg15)) := by
  have hp : ∀ y : S1x512x512.Idx, ((res_main_v35 V : IVec S1x512x512 32) y).toNat < 65 := fun y => by
    refine lt_of_eq_of_lt ((congrArg (fun y => ((res_main_v35 V : IVec S1x512x512 32) y).toNat) (unit3 (a := 512) (b := 512) y)).trans (pos_word V hI (y 1) (y 2))) ?_
    omega
  have hc : ∀ y : S1x512x512.Idx, ((res_main_v51 V : IVec S1x512x512 32) y).toNat < 5 := fun y =>
    lt_of_eq_of_lt ((congrArg (fun y => ((res_main_v51 V : IVec S1x512x512 32) y).toNat) (unit3 (a := 512) (b := 512) y)).trans (chain_word V hI (y 1) (y 2)))
      (Fin.isLt _)
  funext y
  refine (congrArg (res_main_v54 V) (unit4 (a := 512) (b := 512) (d := 128) y)).trans ?_
  refine congrArg₂ (fun a b : EReal => a + b) (congrArg₂ (fun a b : EReal => a + b)
      ((left_read _ _ (y 1) (y 2) (y 3)).trans (congrArg₂ (· + ·) ?_ ?_)) ((right_read _ _ (y 1) (y 2) (y 3)).trans (congrArg₂ (· + ·) ?_ ?_)))
    (congrArg₂ (fun a b : EReal => a + b) (Eq.trans ?_ (pick_row (K := 65) _ _ _ (pos_word V hI (y 1) (y 2)) (y 3)))
      (Eq.trans ?_ (pick_row (K := 5) _ _ _ (chain_word V hI (y 1) (y 2)) (y 3))))
  · exact take_list (K := 22) (D := 128) (by norm_num) _ _ _ hI.seq _ _ (fun _ => rfl) _ _ _ (fun _ => rfl) (fun _ => rfl) _ _ _ _ _ _
  · exact take_list (K := 2) (D := 128) (by norm_num) _ _ _ hI.epi _ _ (fun _ => rfl) _ _ _ (fun _ => rfl) (fun _ => rfl) _ _ _ _ _ _
  · exact take_list (K := 22) (D := 128) (by norm_num) _ _ _ hI.seq _ _ (fun _ => rfl) _ _ _ (fun _ => rfl) (fun _ => rfl) _ _ _ _ _ _
  · exact take_list (K := 2) (D := 128) (by norm_num) _ _ _ hI.epi _ _ (fun _ => rfl) _ _ _ (fun _ => rfl) (fun _ => rfl) _ _ _ _ _ _
  · exact take_square (K := 65) (D := 128) (by norm_num) _ _ _ hp _ _ (fun _ => rfl) _ _ _ (fun _ => rfl) (fun _ => rfl) _ _ _ _ _ _ _
  · exact take_square (K := 5) (D := 128) (by norm_num) _ _ _ hc _ _ (fun _ => rfl) _ _ _ (fun _ => rfl) (fun _ => rfl) _ _ _ _ _ _ _

/-- The reference's run, its results stated by the problem's three functions of the arguments. -/
theorem run_ref (m : (ℓ : Loc nD τ sig) → Buf (Elt Ideal) ℓ) (g : Dev nD → PrngReg) (hI : ∀ c, Good (launchContents m c)) :
    θ_run defs (onTc (τ := τ) (main (F := Ideal))) ⟨m, fun _ => 0, g⟩ fun r => ∀ c : Dev nD,
      r.2.mem ((c.tc : Thread nD τ).loc main_v7) = msaArr (m ((c.tc : Thread nD τ).loc main_arg0)) (m ((c.tc : Thread nD τ).loc main_arg1))
        (m ((c.tc : Thread nD τ).loc main_arg5)) (m ((c.tc : Thread nD τ).loc main_arg6)) (m ((c.tc : Thread nD τ).loc main_arg7))
      ∧ r.2.mem ((c.tc : Thread nD τ).loc main_v54) = pairArr (m ((c.tc : Thread nD τ).loc main_arg1)) (m ((c.tc : Thread nD τ).loc main_arg4))
        (m ((c.tc : Thread nD τ).loc main_arg3)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg14))
        (m ((c.tc : Thread nD τ).loc main_arg15))
      ∧ r.2.mem ((c.tc : Thread nD τ).loc main_v57) = stateArr (m ((c.tc : Thread nD τ).loc main_arg1)) (m ((c.tc : Thread nD τ).loc main_arg4))
        (m ((c.tc : Thread nD τ).loc main_arg12)) (m ((c.tc : Thread nD τ).loc main_arg13)) :=
  (θ_run defs _ _).mono (fun r h c => by
    refine ⟨(h c).1.trans (funext fun y => ?_), (h c).2.1.trans (pair_ref (launchContents m c) (hI c)), (h c).2.2.1.trans (funext fun y => ?_)⟩
    · refine (congrArg _ (unit4 (a := 64) (b := 512) (d := 256) y)).trans ?_
      refine (congrArg₂ (fun a b : EReal => a + b) (congrArg₂ (fun a b : EReal => a + b) (dot_read _ _ (y 1) (y 2) (y 3)) (bias_read _ (y 1) (y 2) (y 3)))
        ((query_read _ (y 1) (y 2) (y 3)).trans (take_list (K := 22) (D := 256) (by norm_num) _ _ _ (hI c).seq _ _ (fun _ => rfl) _ _ _ (fun _ => rfl)
          (fun _ => rfl) _ _ _ _ _ _))).trans ?_
      exact (add_assoc _ _ _).trans (congrArg _ (add_comm _ _))
    · refine (congrArg _ (unit3 (a := 512) (b := 32) y)).trans ?_
      exact congrArg₂ (fun a b : EReal => a + b)
        (take_list (K := 22) (D := 32) (by norm_num) _ _ _ (hI c).seq _ _ (fun _ => rfl) _ _ _ (fun _ => rfl) (fun _ => rfl) _ _ _ _ _ _)
        (take_list (K := 2) (D := 32) (by norm_num) _ _ _ (hI c).epi _ _ (fun _ => rfl) _ _ _ (fun _ => rfl) (fun _ => rfl) _ _ _ _ _ _)) (run m g)

end Cert.ReferenceIdeal.Results

end
-- ==== Proof.Algebraic.lean ====
/- The value claim: on the inputs as drawn, the kernel's three results are the reference's, at extended reals. -/
module

public import proofs.«01_k».proof.Defs
public import proofs.«01_k».proof.Proof.KernelIdeal.Arrays
public import proofs.«01_k».proof.Proof.Reference.Value
public import proofs.«01_k».proof.Proof.Frames

@[expose] public section

noncomputable section

namespace Cert.KernelIdeal.Fused

open Idealize.ShloMosaic Idealize.ShloMosaic.TcCoe Idealize.SL.Sem
open Cert.KernelIdeal Cert.KernelIdeal.Gen Cert.Drawn

/-- The kernel's run, its results stated by the problem's three functions of the arguments. -/
theorem run_kernel (m : (ℓ : Loc nD τ sig) → Buf (Elt Ideal) ℓ) (g : Dev nD → PrngReg) (hI : ∀ c, Good m c) :
    θ_run defs (onTc (τ := τ) (main (F := Ideal))) ⟨m, fun _ => 0, g⟩ fun r => ∀ c : Dev nD,
      r.2.mem ((c.tc : Thread nD τ).loc main_v4_0) = msaRes m c ∧ r.2.mem ((c.tc : Thread nD τ).loc main_v4_1) = pairRes m c
        ∧ r.2.mem ((c.tc : Thread nD τ).loc main_v4_2) = stateRes m c :=
  (θ_run defs _ _).mono (fun _ h c => ⟨((h c).1 16).trans (final16 m c (hI c)), ((h c).1 17).trans (final17 m c (hI c)), ((h c).1 18).trans (final18 m c (hI c))⟩)
    (run_arrays m g (words_of m fun c => (hI c).chain))

end Cert.KernelIdeal.Fused

namespace Cert.Drawn

open Idealize.ShloMosaic Idealize.ShloMosaic.TcCoe Idealize.SL.Sem
open Cert.KernelIdeal.Fused

/-- Both programs' results are the same three functions of arguments that agree. -/
theorem algebraic : Cert.algebraic_KernelIdeal_ReferenceIdeal_pre_inputs_as_drawn (hKernelIdeal := Cert.KernelIdeal.Gen.facts)
    (hReferenceIdeal := Cert.ReferenceIdeal.Gen.facts) (hPre_inputs_as_drawn := Cert.Pre_inputs_as_drawn.Gen.facts) := by
  intro m g m' g' hpre hargs
  have hI : ∀ c, Good m c := fun c => drawn _ _ _ _ (hpre c)
  have hI' : ∀ c, Cert.ReferenceIdeal.Results.Good (StableHlo.launchContents m' c) := fun c => by
    obtain ⟨-, a1, a2, a3, a4, -, -, -, -, -, -, -, -, -, -, a15⟩ := hargs c
    show Inputs (F := Ideal) (m' ((c.tc : Thread _ Cert.ReferenceIdeal.τ).loc Cert.ReferenceIdeal.main_arg1))
      (m' ((c.tc : Thread _ Cert.ReferenceIdeal.τ).loc Cert.ReferenceIdeal.main_arg2)) (m' ((c.tc : Thread _ Cert.ReferenceIdeal.τ).loc Cert.ReferenceIdeal.main_arg3))
      (m' ((c.tc : Thread _ Cert.ReferenceIdeal.τ).loc Cert.ReferenceIdeal.main_arg4)) (m' ((c.tc : Thread _ Cert.ReferenceIdeal.τ).loc Cert.ReferenceIdeal.main_arg15))
    rw [a1, a2, a3, a4, a15]
    exact hI c
  refine ⟨msaRes m, pairRes m, stateRes m, ?_, ?_⟩
  · exact (θ_run Cert.KernelIdeal.defs _ _).mono (fun r h c => ⟨(h.1 c).1, (h.1 c).2.1, (h.1 c).2.2, h.2.1 c⟩)
      (θ_run_and (run_kernel m g hI) (frame_i_drawn m g hpre))
  · refine (θ_run Cert.ReferenceIdeal.defs _ _).mono (fun r h c => ⟨(h.1 c).1.trans ?_, (h.1 c).2.1.trans ?_, (h.1 c).2.2.trans ?_, h.2.1 c⟩)
      (θ_run_and (Cert.ReferenceIdeal.Results.run_ref m' g' hI') (frame_r m' g' trivial))
    all_goals
      obtain ⟨a0, a1, -, a3, a4, a5, a6, a7, a8, a9, a10, a11, a12, a13, a14, a15⟩ := hargs c
    · rw [a0, a1, a5, a6, a7]; rfl
    · rw [a1, a4, a3, a8, a9, a10, a11, a14, a15]; rfl
    · rw [a1, a4, a12, a13]; rfl

end Cert.Drawn

end
-- ==== Proof.lean ====
/- The proof of the certificate's claims, assembled from the modules under Proof/:
   Spec.lean states the three results as functions of the arguments; Pre.lean reads the two preconditions;
   KernelIdeal/ and Kernel/ hold the kernel's run (what its body stores at each grid step, and the frame that follows), at
   extended reals and at the machine's words; KernelIdeal/Arrays.lean says what the three result arrays hold;
   Reference/ reads the reference's operations; Frames.lean and Algebraic.lean prove the claims. -/
module

public import proofs.«01_k».proof.Defs
public import proofs.«01_k».proof.Proof.Frames
public import proofs.«01_k».proof.Proof.Algebraic

@[expose] public section

noncomputable section

namespace Cert.Proof

open Cert.Drawn

theorem claim : Cert.Claim :=
  ⟨Cert.Kernel.Gen.facts, Cert.KernelIdeal.Gen.facts, Cert.ReferenceIdeal.Gen.facts, Cert.Pre_chains_in_range.Gen.facts, Cert.Pre_inputs_as_drawn.Gen.facts,
    frame_k, frame_i, frame_i_drawn, frame_r, frame_r_drawn, trivial, algebraic⟩

end Cert.Proof

end
